-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x4096 : Shape := ⟨3, ![2, 1536, 4096]⟩
abbrev S2x1536x32 : Shape := ⟨3, ![2, 1536, 32]⟩
abbrev S5504x4096 : Shape := ⟨2, ![5504, 4096]⟩
abbrev S43x32 : Shape := ⟨2, ![43, 32]⟩
abbrev S2x1536x5504 : Shape := ⟨3, ![2, 1536, 5504]⟩
abbrev S3072x32 : Shape := ⟨2, ![3072, 32]⟩
abbrev S3072x4096 : Shape := ⟨2, ![3072, 4096]⟩
abbrev S3072x5504 : Shape := ⟨2, ![3072, 5504]⟩
abbrev S256x4096 : Shape := ⟨2, ![256, 4096]⟩
abbrev S3072x256 : Shape := ⟨2, ![3072, 256]⟩
abbrev S512x1 : Shape := ⟨2, ![512, 1]⟩
abbrev S512x128 : Shape := ⟨2, ![512, 128]⟩
abbrev S1x1 : Shape := ⟨2, ![1, 1]⟩
abbrev S128x128 : Shape := ⟨2, ![128, 128]⟩
abbrev S512x4096 : Shape := ⟨2, ![512, 4096]⟩
abbrev S512x256 : Shape := ⟨2, ![512, 256]⟩

abbrev nBuf : Space → Nat
  | .hbm => 10
  | .vmem => 10
  | .smem => 1
  | _ => 0

abbrev bufTy : (tb : Table) → Fin (tcTables nBuf tb) → BufTy
  | .hbm, ⟨0, _⟩ => ⟨S2x1536x4096, .fp8e4m3⟩
  | .hbm, ⟨1, _⟩ => ⟨S2x1536x32, .f32⟩
  | .hbm, ⟨2, _⟩ => ⟨S5504x4096, .fp8e4m3⟩
  | .hbm, ⟨3, _⟩ => ⟨S43x32, .f32⟩
  | .hbm, ⟨4, _⟩ => ⟨S2x1536x5504, .bf16⟩
  | .hbm, ⟨5, _⟩ => ⟨S3072x32, .f32⟩
  | .hbm, ⟨6, _⟩ => ⟨S3072x4096, .fp8e4m3⟩
  | .hbm, ⟨7, _⟩ => ⟨S3072x5504, .bf16⟩
  | .hbm, ⟨8, _⟩ => ⟨S3072x5504, .bf16⟩
  | .hbm, ⟨9, _⟩ => ⟨S2x1536x5504, .bf16⟩
  | .local _ .vmem, ⟨0, _⟩ => ⟨S3072x32, .f32⟩
  | .local _ .vmem, ⟨1, _⟩ => ⟨S3072x4096, .fp8e4m3⟩
  | .local _ .vmem, ⟨2, _⟩ => ⟨S256x4096, .fp8e4m3⟩
  | .local _ .vmem, ⟨3, _⟩ => ⟨S256x4096, .fp8e4m3⟩
  | .local _ .vmem, ⟨4, _⟩ => ⟨S3072x256, .bf16⟩
  | .local _ .vmem, ⟨5, _⟩ => ⟨S3072x256, .bf16⟩
  | .local _ .vmem, ⟨6, _⟩ => ⟨S3072x256, .bf16⟩
  | .local _ .vmem, ⟨7, _⟩ => ⟨S3072x256, .bf16⟩
  | .local _ .vmem, ⟨8, _⟩ => ⟨S3072x4096, .bf16⟩
  | .local _ .vmem, ⟨9, _⟩ => ⟨S256x4096, .bf16⟩
  | .local _ .smem, ⟨0, _⟩ => ⟨S43x32, .f32⟩
  | _, _ => ⟨S2x1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_264 : BitVec 32 := 0#32
  let c6_i32_265 : BitVec 32 := 6#32
  let v650 : BitVec 32 := Scalar.addi c0_i32_264 c6_i32_265
  let c1_i32_266 : BitVec 32 := 1#32
  ⟨c0_i32_264, v650, c1_i32_266⟩
def k0_off1 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v652 : Index := Scalar.indexCast v651
  let c0_268 : Index := 0#32
  ![v652.toNat, 0]
def k0_off2 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v656 : Index := Scalar.indexCast v651
  let c0_269 : Index := 0#32
  ![v656.toNat, 0]
def k0_off3 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v666 : Index := Scalar.indexCast v651
  let c1_271 : Index := 1#32
  ![v666.toNat, 1]
def k0_off4 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v670 : Index := Scalar.indexCast v651
  let c128_272 : Index := 128#32
  ![v670.toNat, 128]
def k0_off5 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v680 : Index := Scalar.indexCast v651
  let c2_274 : Index := 2#32
  ![v680.toNat, 2]
def k0_off6 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v684 : Index := Scalar.indexCast v651
  let c256_275 : Index := 256#32
  ![v684.toNat, 256]
def k0_off7 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v694 : Index := Scalar.indexCast v651
  let c3_277 : Index := 3#32
  ![v694.toNat, 3]
def k0_off8 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v698 : Index := Scalar.indexCast v651
  let c384_278 : Index := 384#32
  ![v698.toNat, 384]
def k0_off9 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v708 : Index := Scalar.indexCast v651
  let c4_280 : Index := 4#32
  ![v708.toNat, 4]
def k0_off10 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v712 : Index := Scalar.indexCast v651
  let c512_281 : Index := 512#32
  ![v712.toNat, 512]
def k0_off11 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v722 : Index := Scalar.indexCast v651
  let c5_283 : Index := 5#32
  ![v722.toNat, 5]
def k0_off12 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v726 : Index := Scalar.indexCast v651
  let c640_284 : Index := 640#32
  ![v726.toNat, 640]
def k0_off13 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v736 : Index := Scalar.indexCast v651
  let c6_286 : Index := 6#32
  ![v736.toNat, 6]
def k0_off14 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v740 : Index := Scalar.indexCast v651
  let c768_287 : Index := 768#32
  ![v740.toNat, 768]
def k0_off15 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v750 : Index := Scalar.indexCast v651
  let c7_289 : Index := 7#32
  ![v750.toNat, 7]
def k0_off16 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v754 : Index := Scalar.indexCast v651
  let c896_290 : Index := 896#32
  ![v754.toNat, 896]
def k0_off17 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v764 : Index := Scalar.indexCast v651
  let c8_292 : Index := 8#32
  ![v764.toNat, 8]
def k0_off18 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v768 : Index := Scalar.indexCast v651
  let c1024_293 : Index := 1024#32
  ![v768.toNat, 1024]
def k0_off19 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v778 : Index := Scalar.indexCast v651
  let c9_295 : Index := 9#32
  ![v778.toNat, 9]
def k0_off20 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v782 : Index := Scalar.indexCast v651
  let c1152_296 : Index := 1152#32
  ![v782.toNat, 1152]
def k0_off21 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v792 : Index := Scalar.indexCast v651
  let c10_298 : Index := 10#32
  ![v792.toNat, 10]
def k0_off22 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v796 : Index := Scalar.indexCast v651
  let c1280_299 : Index := 1280#32
  ![v796.toNat, 1280]
def k0_off23 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v806 : Index := Scalar.indexCast v651
  let c11_301 : Index := 11#32
  ![v806.toNat, 11]
def k0_off24 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v810 : Index := Scalar.indexCast v651
  let c1408_302 : Index := 1408#32
  ![v810.toNat, 1408]
def k0_off25 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v820 : Index := Scalar.indexCast v651
  let c12_304 : Index := 12#32
  ![v820.toNat, 12]
def k0_off26 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v824 : Index := Scalar.indexCast v651
  let c1536_305 : Index := 1536#32
  ![v824.toNat, 1536]
def k0_off27 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v834 : Index := Scalar.indexCast v651
  let c13_307 : Index := 13#32
  ![v834.toNat, 13]
def k0_off28 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v838 : Index := Scalar.indexCast v651
  let c1664_308 : Index := 1664#32
  ![v838.toNat, 1664]
def k0_off29 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v848 : Index := Scalar.indexCast v651
  let c14_310 : Index := 14#32
  ![v848.toNat, 14]
def k0_off30 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v852 : Index := Scalar.indexCast v651
  let c1792_311 : Index := 1792#32
  ![v852.toNat, 1792]
def k0_off31 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v862 : Index := Scalar.indexCast v651
  let c15_313 : Index := 15#32
  ![v862.toNat, 15]
def k0_off32 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v866 : Index := Scalar.indexCast v651
  let c1920_314 : Index := 1920#32
  ![v866.toNat, 1920]
def k0_off33 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v876 : Index := Scalar.indexCast v651
  let c16_316 : Index := 16#32
  ![v876.toNat, 16]
def k0_off34 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v880 : Index := Scalar.indexCast v651
  let c2048_317 : Index := 2048#32
  ![v880.toNat, 2048]
def k0_off35 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v890 : Index := Scalar.indexCast v651
  let c17_319 : Index := 17#32
  ![v890.toNat, 17]
def k0_off36 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v894 : Index := Scalar.indexCast v651
  let c2176_320 : Index := 2176#32
  ![v894.toNat, 2176]
def k0_off37 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v904 : Index := Scalar.indexCast v651
  let c18_322 : Index := 18#32
  ![v904.toNat, 18]
def k0_off38 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v908 : Index := Scalar.indexCast v651
  let c2304_323 : Index := 2304#32
  ![v908.toNat, 2304]
def k0_off39 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v918 : Index := Scalar.indexCast v651
  let c19_325 : Index := 19#32
  ![v918.toNat, 19]
def k0_off40 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v922 : Index := Scalar.indexCast v651
  let c2432_326 : Index := 2432#32
  ![v922.toNat, 2432]
def k0_off41 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v932 : Index := Scalar.indexCast v651
  let c20_328 : Index := 20#32
  ![v932.toNat, 20]
def k0_off42 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v936 : Index := Scalar.indexCast v651
  let c2560_329 : Index := 2560#32
  ![v936.toNat, 2560]
def k0_off43 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v946 : Index := Scalar.indexCast v651
  let c21_331 : Index := 21#32
  ![v946.toNat, 21]
def k0_off44 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v950 : Index := Scalar.indexCast v651
  let c2688_332 : Index := 2688#32
  ![v950.toNat, 2688]
def k0_off45 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v960 : Index := Scalar.indexCast v651
  let c22_334 : Index := 22#32
  ![v960.toNat, 22]
def k0_off46 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v964 : Index := Scalar.indexCast v651
  let c2816_335 : Index := 2816#32
  ![v964.toNat, 2816]
def k0_off47 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v974 : Index := Scalar.indexCast v651
  let c23_337 : Index := 23#32
  ![v974.toNat, 23]
def k0_off48 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v978 : Index := Scalar.indexCast v651
  let c2944_338 : Index := 2944#32
  ![v978.toNat, 2944]
def k0_off49 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v988 : Index := Scalar.indexCast v651
  let c24_340 : Index := 24#32
  ![v988.toNat, 24]
def k0_off50 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v992 : Index := Scalar.indexCast v651
  let c3072_341 : Index := 3072#32
  ![v992.toNat, 3072]
def k0_off51 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1002 : Index := Scalar.indexCast v651
  let c25_343 : Index := 25#32
  ![v1002.toNat, 25]
def k0_off52 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1006 : Index := Scalar.indexCast v651
  let c3200_344 : Index := 3200#32
  ![v1006.toNat, 3200]
def k0_off53 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1016 : Index := Scalar.indexCast v651
  let c26_346 : Index := 26#32
  ![v1016.toNat, 26]
def k0_off54 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1020 : Index := Scalar.indexCast v651
  let c3328_347 : Index := 3328#32
  ![v1020.toNat, 3328]
def k0_off55 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1030 : Index := Scalar.indexCast v651
  let c27_349 : Index := 27#32
  ![v1030.toNat, 27]
def k0_off56 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1034 : Index := Scalar.indexCast v651
  let c3456_350 : Index := 3456#32
  ![v1034.toNat, 3456]
def k0_off57 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1044 : Index := Scalar.indexCast v651
  let c28_352 : Index := 28#32
  ![v1044.toNat, 28]
def k0_off58 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1048 : Index := Scalar.indexCast v651
  let c3584_353 : Index := 3584#32
  ![v1048.toNat, 3584]
def k0_off59 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1058 : Index := Scalar.indexCast v651
  let c29_355 : Index := 29#32
  ![v1058.toNat, 29]
def k0_off60 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1062 : Index := Scalar.indexCast v651
  let c3712_356 : Index := 3712#32
  ![v1062.toNat, 3712]
def k0_off61 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1072 : Index := Scalar.indexCast v651
  let c30_358 : Index := 30#32
  ![v1072.toNat, 30]
def k0_off62 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1076 : Index := Scalar.indexCast v651
  let c3840_359 : Index := 3840#32
  ![v1076.toNat, 3840]
def k0_off63 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1086 : Index := Scalar.indexCast v651
  let c31_361 : Index := 31#32
  ![v1086.toNat, 31]
def k0_off64 (k0_t1 : Fin k0_t1_loop.trips) : Fin 2 → Nat :=
  let c0_i32_264 : BitVec 32 := 0#32
  let c1_i32_266 : BitVec 32 := 1#32
  let arg9 : BitVec 32 := Scf.iv c0_i32_264 c1_i32_266 k0_t1
  let c512_i32 : BitVec 32 := 512#32
  let v651 : BitVec 32 := Scalar.muli arg9 c512_i32
  let v1090 : Index := Scalar.indexCast v651
  let c3968_362 : Index := 3968#32
  ![v1090.toNat, 3968]
def k0_off65 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v6 : Index := Scalar.indexCast v5
  let c0 : Index := 0#32
  ![v6.toNat, 0]
def k0_off66 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v16 : Index := Scalar.indexCast v5
  let c1 : Index := 1#32
  ![v16.toNat, 1]
def k0_off67 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v26 : Index := Scalar.indexCast v5
  let c2 : Index := 2#32
  ![v26.toNat, 2]
def k0_off68 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v36 : Index := Scalar.indexCast v5
  let c3 : Index := 3#32
  ![v36.toNat, 3]
def k0_off69 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v46 : Index := Scalar.indexCast v5
  let c4 : Index := 4#32
  ![v46.toNat, 4]
def k0_off70 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v56 : Index := Scalar.indexCast v5
  let c5 : Index := 5#32
  ![v56.toNat, 5]
def k0_off71 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v66 : Index := Scalar.indexCast v5
  let c6 : Index := 6#32
  ![v66.toNat, 6]
def k0_off72 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v76 : Index := Scalar.indexCast v5
  let c7 : Index := 7#32
  ![v76.toNat, 7]
def k0_off73 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v86 : Index := Scalar.indexCast v5
  let c8 : Index := 8#32
  ![v86.toNat, 8]
def k0_off74 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v96 : Index := Scalar.indexCast v5
  let c9 : Index := 9#32
  ![v96.toNat, 9]
def k0_off75 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v106 : Index := Scalar.indexCast v5
  let c10 : Index := 10#32
  ![v106.toNat, 10]
def k0_off76 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v116 : Index := Scalar.indexCast v5
  let c11 : Index := 11#32
  ![v116.toNat, 11]
def k0_off77 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v126 : Index := Scalar.indexCast v5
  let c12 : Index := 12#32
  ![v126.toNat, 12]
def k0_off78 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v136 : Index := Scalar.indexCast v5
  let c13 : Index := 13#32
  ![v136.toNat, 13]
def k0_off79 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v146 : Index := Scalar.indexCast v5
  let c14 : Index := 14#32
  ![v146.toNat, 14]
def k0_off80 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v156 : Index := Scalar.indexCast v5
  let c15 : Index := 15#32
  ![v156.toNat, 15]
def k0_off81 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v166 : Index := Scalar.indexCast v5
  let c16 : Index := 16#32
  ![v166.toNat, 16]
def k0_off82 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v176 : Index := Scalar.indexCast v5
  let c17 : Index := 17#32
  ![v176.toNat, 17]
def k0_off83 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v186 : Index := Scalar.indexCast v5
  let c18 : Index := 18#32
  ![v186.toNat, 18]
def k0_off84 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v196 : Index := Scalar.indexCast v5
  let c19 : Index := 19#32
  ![v196.toNat, 19]
def k0_off85 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v206 : Index := Scalar.indexCast v5
  let c20 : Index := 20#32
  ![v206.toNat, 20]
def k0_off86 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v216 : Index := Scalar.indexCast v5
  let c21 : Index := 21#32
  ![v216.toNat, 21]
def k0_off87 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v226 : Index := Scalar.indexCast v5
  let c22 : Index := 22#32
  ![v226.toNat, 22]
def k0_off88 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v236 : Index := Scalar.indexCast v5
  let c23 : Index := 23#32
  ![v236.toNat, 23]
def k0_off89 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v246 : Index := Scalar.indexCast v5
  let c24 : Index := 24#32
  ![v246.toNat, 24]
def k0_off90 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v256 : Index := Scalar.indexCast v5
  let c25 : Index := 25#32
  ![v256.toNat, 25]
def k0_off91 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v266 : Index := Scalar.indexCast v5
  let c26 : Index := 26#32
  ![v266.toNat, 26]
def k0_off92 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v276 : Index := Scalar.indexCast v5
  let c27 : Index := 27#32
  ![v276.toNat, 27]
def k0_off93 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v286 : Index := Scalar.indexCast v5
  let c28 : Index := 28#32
  ![v286.toNat, 28]
def k0_off94 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v296 : Index := Scalar.indexCast v5
  let c29 : Index := 29#32
  ![v296.toNat, 29]
def k0_off95 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v306 : Index := Scalar.indexCast v5
  let c30 : Index := 30#32
  ![v306.toNat, 30]
def k0_off96 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c42_i32 : BitVec 32 := 42#32
  let v5 : BitVec 32 := Scalar.minsi v4 c42_i32
  let v316 : Index := Scalar.indexCast v5
  let c31 : Index := 31#32
  ![v316.toNat, 31]
@[reducible] def k0_t2_loop : Scf.Loop 32 :=
  let c0_i32_261 : BitVec 32 := 0#32
  let c6_i32 : BitVec 32 := 6#32
  let v649 : BitVec 32 := Scalar.addi c0_i32_261 c6_i32
  let c1_i32_262 : BitVec 32 := 1#32
  ⟨c0_i32_261, v649, c1_i32_262⟩
def k0_off97 (k0_t2 : Fin k0_t2_loop.trips) : Fin 2 → Nat :=
  let c0_i32_261 : BitVec 32 := 0#32
  let c1_i32_262 : BitVec 32 := 1#32
  let arg9 : BitVec 32 := Scf.iv c0_i32_261 c1_i32_262 k0_t2
  let c512_i32 : BitVec 32 := 512#32
  let v650 : BitVec 32 := Scalar.muli arg9 c512_i32
  let v651 : Index := Scalar.indexCast v650
  let c0_264 : Index := 0#32
  ![v651.toNat, 0]
def k0_off98 (k0_t2 : Fin k0_t2_loop.trips) : Fin 2 → Nat :=
  let c0_i32_261 : BitVec 32 := 0#32
  let c1_i32_262 : BitVec 32 := 1#32
  let arg9 : BitVec 32 := Scf.iv c0_i32_261 c1_i32_262 k0_t2
  let c512_i32 : BitVec 32 := 512#32
  let v650 : BitVec 32 := Scalar.muli arg9 c512_i32
  let v655 : Index := Scalar.indexCast v650
  let c0_267 : Index := 0#32
  ![v655.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S43x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x1536x4096 : Shape := ⟨3, ![2, 1536, 4096]⟩
abbrev S2x1536x32 : Shape := ⟨3, ![2, 1536, 32]⟩
abbrev S5504x4096 : Shape := ⟨2, ![5504, 4096]⟩
abbrev S43x32 : Shape := ⟨2, ![43, 32]⟩
abbrev S2x1536x5504 : Shape := ⟨3, ![2, 1536, 5504]⟩
abbrev S2x1536x32x128 : Shape := ⟨4, ![2, 1536, 32, 128]⟩
abbrev S2x1536x32x1 : Shape := ⟨4, ![2, 1536, 32, 1]⟩
abbrev S43x128x32x128 : Shape := ⟨4, ![43, 128, 32, 128]⟩
abbrev S43x1x32x1 : Shape := ⟨4, ![43, 1, 32, 1]⟩

abbrev nBuf : Space → Nat
  | .hbm => 6
  | .vmem => 6
  | .smem => 0
  | _ => 0

abbrev bufTy : (tb : Table) → Fin (tcTables nBuf tb) → BufTy
  | .hbm, ⟨0, _⟩ => ⟨S2x1536x4096, .fp8e4m3⟩
  | .hbm, ⟨1, _⟩ => ⟨S2x1536x32, .f32⟩
  | .hbm, ⟨2, _⟩ => ⟨S5504x4096, .fp8e4m3⟩
  | .hbm, ⟨3, _⟩ => ⟨S43x32, .f32⟩
  | .hbm, ⟨4, _⟩ => ⟨S2x1536x5504, .bf16⟩
  | .hbm, ⟨5, _⟩ => ⟨S2x1536x5504, .bf16⟩
  | .local _ .vmem, ⟨0, _⟩ => ⟨S2x1536x4096, .fp8e4m3⟩
  | .local _ .vmem, ⟨1, _⟩ => ⟨S2x1536x32, .f32⟩
  | .local _ .vmem, ⟨2, _⟩ => ⟨S5504x4096, .fp8e4m3⟩
  | .local _ .vmem, ⟨3, _⟩ => ⟨S43x32, .f32⟩
  | .local _ .vmem, ⟨4, _⟩ => ⟨S2x1536x5504, .bf16⟩
  | .local _ .vmem, ⟨5, _⟩ => ⟨S2x1536x5504, .bf16⟩
  | _, _ => ⟨S2x1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1536x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5504x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S43x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536x5504 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536x5504 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.Value
public import Idealize.ShloMosaic.Lib.Pipeline.ValueKit.Tiles
public import Idealize.ShloMosaic.Lib.Tactic

/-! What one run of the kernel body leaves in its buffers: the dequantized activations, the dequantized
weight block, and the product of the two added to the residual block. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]
local notation "𝕄" => MT nD τ sig Unit (Elt F) ℕ (UR sig nD τ) ℕ

/-- The scale of an activation entry: its row, and its column group of 128. -/
def xs (y : S3072x4096.Idx) : S3072x32.Idx := fun a =>
  ⟨![(y 0).val, (y 1).val / 128] a, by
    have h0 : (y 0).val < 3072 := (y 0).isLt
    have h1 : (y 1).val < 4096 := (y 1).isLt
    revert a; rw [Fin.forall_fin_two]; exact ⟨h0, show (y 1).val / 128 < 32 by omega⟩⟩

/-- The scale of an entry of weight block `i`: row group `2 i + row / 128`, kept below 43, and its column group. -/
def wsAt (i : grid0.Coords) (y : S256x4096.Idx) : S43x32.Idx := fun a =>
  ⟨![min (2 * (i 0).val + (y 0).val / 128) 42, (y 1).val / 128] a, by
    have h1 : (y 1).val < 4096 := (y 1).isLt
    revert a; rw [Fin.forall_fin_two]
    exact ⟨show min _ 42 < 43 by omega, show (y 1).val / 128 < 32 by omega⟩⟩

/-- The dequantized activations. -/
def XD (f1 : S3072x32.Idx → Elt F .f32) (f3 : S3072x4096.Idx → Elt F .fp8e4m3) : S3072x4096.Idx → Elt F .bf16 :=
  mulf (extf .bf16 f3 bitsLt_fp8e4m3_bf16) (truncf .bf16 (fun y => f1 (xs y)) bitsLt_bf16_f32)

/-- The dequantized weight block at grid point `i`. -/
def WD (i : grid0.Coords) (f2 : S43x32.Idx → Elt F .f32) (f4 : S256x4096.Idx → Elt F .fp8e4m3) : S256x4096.Idx → Elt F .bf16 :=
  mulf (extf .bf16 f4 bitsLt_fp8e4m3_bf16) (truncf .bf16 (fun y => f2 (wsAt i y)) bitsLt_bf16_f32)

/-- The 512 rows of tile `k` of an activation matrix. -/
def rowsX (k : ℕ) (hk : k < 6) (f7 : S3072x4096.Idx → Elt F .bf16) : S512x4096.Idx → Elt F .bf16 := fun x =>
  f7 fun a => ⟨![512 * k + (x 0).val, (x 1).val] a, by
    have h0 : (x 0).val < 512 := (x 0).isLt
    have h1 : (x 1).val < 4096 := (x 1).isLt
    revert a; rw [Fin.forall_fin_two]; exact ⟨show 512 * k + (x 0).val < 3072 by omega, h1⟩⟩

/-- The 512 rows of tile `k` of a block of 256 columns. -/
def rowsR (k : ℕ) (hk : k < 6) (f5 : S3072x256.Idx → Elt F .bf16) : S512x256.Idx → Elt F .bf16 := fun x =>
  f5 fun a => ⟨![512 * k + (x 0).val, (x 1).val] a, by
    have h0 : (x 0).val < 512 := (x 0).isLt
    have h1 : (x 1).val < 256 := (x 1).isLt
    revert a; rw [Fin.forall_fin_two]; exact ⟨show 512 * k + (x 0).val < 3072 by omega, h1⟩⟩

/-- Where an entry of a 3072-row block lies in its tile of 512 rows. -/
def inTile (y : S3072x256.Idx) : S512x256.Idx := fun a =>
  ⟨![(y 0).val % 512, (y 1).val] a, by
    have h1 : (y 1).val < 256 := (y 1).isLt
    revert a; rw [Fin.forall_fin_two]; exact ⟨Nat.mod_lt _ (by decide), h1⟩⟩

theorem tile_lt (y : S3072x256.Idx) : (y 0).val / 512 < 6 := by
  have h0 : (y 0).val < 3072 := (y 0).isLt
  omega

/-- The output block: the product of the two dequantized matrices, plus the residual block, tile by tile. -/
def OUT (f7 : S3072x4096.Idx → Elt F .bf16) (f8 : S256x4096.Idx → Elt F .bf16) (f5 : S3072x256.Idx → Elt F .bf16) :
    S3072x256.Idx → Elt F .bf16 := fun y =>
  k0_pay3 (rowsX ((y 0).val / 512) (tile_lt y) f7) f8 (rowsR ((y 0).val / 512) (tile_lt y) f5) (inTile y)

/-- One store of dequantized activations: 512 rows, one column group. -/
theorem xpiece (k g : ℕ) (o1 : Fin 2 → ℕ) (o3 : Fin 2 → ℕ) (h1 : o1 = ![512 * k, g]) (h3 : o3 = ![512 * k, 128 * g])
    (b1 : ∀ a, o1 a + S512x1.size a ≤ S3072x32.size a) (b3 : ∀ a, o3 a + S512x128.size a ≤ S3072x4096.size a)
    (f1 : S3072x32.Idx → Elt F .f32) (f3 : S3072x4096.Idx → Elt F .fp8e4m3) (x : S512x128.Idx) :
    k0_pay4 (View.ld (S := S3072x32) f1 (Rect.unit o1 S512x1.size b1)) (View.ld (S := S3072x4096) f3 (Rect.unit o3 S512x128.size b3)) x
      = XD f1 f3 ((Rect.unit (s := S3072x4096) o3 S512x128.size b3).emb x) := by
  subst h1 h3
  have hx0 : (x 0).val < 512 := (x 0).isLt
  have hx1 : (x 1).val < 128 := (x 1).isLt
  unfold k0_pay4 XD
  dsimp only
  simp only [shapeCast_self]
  show FloatOps.mulf _ _ = FloatOps.mulf _ _
  refine congrArg₂ _ rfl ?_
  rw [broadcastTo_apply _ _ x (fun a => ⟨![(x 0).val, 0] a, by revert a; rw [Fin.forall_fin_two]; exact ⟨hx0, Nat.one_pos⟩⟩)
    (by rw [Fin.forall_fin_two]; exact ⟨rfl, rfl⟩)]
  refine congrArg (fun z : Elt F .f32 => FloatOps.truncf (F := F) .bf16 bitsLt_bf16_f32 z) ?_
  refine congrArg f1 (funext fun a => Fin.ext ?_)
  revert a; rw [Fin.forall_fin_two]
  constructor
  · show 512 * k + 1 * (x 0).val = 512 * k + 1 * (x 0).val; rfl
  · show g + 1 * 0 = (128 * g + 1 * (x 1).val) / 128; omega

/-- One store of a dequantized weight tile: 128 rows, one column group, one scale. -/
theorem wpiece (i : grid0.Coords) (r g : ℕ) (hr : r < 2) (o2 : Fin 2 → ℕ) (o4 : Fin 2 → ℕ)
    (h2 : o2 = ![min (2 * (i 0).val + r) 42, g]) (h4 : o4 = ![128 * r, 128 * g])
    (b2 : ∀ a, o2 a + S1x1.size a ≤ S43x32.size a) (b4 : ∀ a, o4 a + S128x128.size a ≤ S256x4096.size a)
    (f2 : S43x32.Idx → Elt F .f32) (f4 : S256x4096.Idx → Elt F .fp8e4m3) (z : S1x1.Idx) (x : S128x128.Idx) :
    k0_pay45 (View.ld (S := S43x32) f2 (Rect.unit o2 S1x1.size b2) z) (View.ld (S := S256x4096) f4 (Rect.unit o4 S128x128.size b4)) x
      = WD i f2 f4 ((Rect.unit (s := S256x4096) o4 S128x128.size b4).emb x) := by
  subst h2 h4
  have hx0 : (x 0).val < 128 := (x 0).isLt
  have hx1 : (x 1).val < 128 := (x 1).isLt
  have hz0 : (z 0).val < 1 := (z 0).isLt
  have hz1 : (z 1).val < 1 := (z 1).isLt
  unfold k0_pay45 WD
  dsimp only
  simp only [shapeCast_self]
  show FloatOps.mulf _ _ = FloatOps.mulf _ _
  refine congrArg₂ _ rfl ?_
  refine congrArg (fun z : Elt F .f32 => FloatOps.truncf (F := F) .bf16 bitsLt_bf16_f32 z) ?_
  refine congrArg f2 (funext fun a => Fin.ext ?_)
  revert a; rw [Fin.forall_fin_two]
  constructor
  · show min (2 * (i 0).val + r) 42 + 1 * (z 0).val = min (2 * (i 0).val + (128 * r + 1 * (x 0).val) / 128) 42; omega
  · show g + 1 * (z 1).val = (128 * g + 1 * (x 1).val) / 128; omega

/-- One store of the output: 512 rows, all 256 columns. -/
theorem opiece (k : ℕ) (hk : k < 6) (o7 o6 o5 : Fin 2 → ℕ) (h7 : o7 = ![512 * k, 0]) (h6 : o6 = ![512 * k, 0]) (h5 : o5 = ![512 * k, 0])
    (b7 : ∀ a, o7 a + S512x4096.size a ≤ S3072x4096.size a) (b6 : ∀ a, o6 a + S512x256.size a ≤ S3072x256.size a)
    (b5 : ∀ a, o5 a + S512x256.size a ≤ S3072x256.size a) (b8 : ∀ a, (![0, 0] : Fin 2 → ℕ) a + S256x4096.size a ≤ S256x4096.size a)
    (f7 : S3072x4096.Idx → Elt F .bf16) (f8 : S256x4096.Idx → Elt F .bf16) (f5 : S3072x256.Idx → Elt F .bf16) (x : S512x256.Idx) :
    k0_pay3 (View.ld (S := S3072x4096) f7 (Rect.unit o7 S512x4096.size b7)) (View.ld (S := S256x4096) f8 (Rect.unit ![0, 0] S256x4096.size b8))
        (View.ld (S := S3072x256) f5 (Rect.unit o5 S512x256.size b5)) x
      = OUT f7 f8 f5 ((Rect.unit (s := S3072x256) o6 S512x256.size b6).emb x) := by
  subst h7 h6 h5
  have hx0 : (x 0).val < 512 := (x 0).isLt
  have hx1 : (x 1).val < 256 := (x 1).isLt
  generalize hy : (Rect.unit (s := S3072x256) ![512 * k, 0] S512x256.size b6).emb x = y
  have hy0 : (y 0).val = 512 * k + (x 0).val := by
    rw [← hy]; show 512 * k + 1 * (x 0).val = _; omega
  have hy1 : (y 1).val = (x 1).val := by
    rw [← hy]; show 0 + 1 * (x 1).val = _; omega
  have hq : (y 0).val / 512 = k := by omega
  unfold OUT
  have hx : inTile y = x := by
    funext a; apply Fin.ext; revert a; rw [Fin.forall_fin_two]
    constructor
    · show (y 0).val % 512 = _; omega
    · show (y 1).val = _; exact hy1
  rw [hx]
  have hX : (View.ld (S := S3072x4096) f7 (Rect.unit ![512 * k, 0] S512x4096.size b7)) = rowsX ((y 0).val / 512) (tile_lt y) f7 := by
    funext z; unfold rowsX View.ld
    refine congrArg f7 (funext fun a => Fin.ext ?_)
    revert a; rw [Fin.forall_fin_two]
    constructor
    · show 512 * k + 1 * (z 0).val = 512 * ((y 0).val / 512) + (z 0).val; omega
    · show 0 + 1 * (z 1).val = (z 1).val; omega
  have hR : (View.ld (S := S3072x256) f5 (Rect.unit ![512 * k, 0] S512x256.size b5)) = rowsR ((y 0).val / 512) (tile_lt y) f5 := by
    funext z; unfold rowsR View.ld
    refine congrArg f5 (funext fun a => Fin.ext ?_)
    revert a; rw [Fin.forall_fin_two]
    constructor
    · show 512 * k + 1 * (z 0).val = 512 * ((y 0).val / 512) + (z 0).val; omega
    · show 0 + 1 * (z 1).val = (z 1).val; omega
  have hW : (View.ld (S := S256x4096) f8 (Rect.unit ![0, 0] S256x4096.size b8)) = f8 := by
    funext z; unfold View.ld
    refine congrArg f8 (funext fun a => Fin.ext ?_)
    revert a; rw [Fin.forall_fin_two]
    constructor
    · show 0 + 1 * (z 0).val = (z 0).val; omega
    · show 0 + 1 * (z 1).val = (z 1).val; omega
  exact congrFun (congr (congrArg₂ k0_pay3 hX hW) hR) x

/-- Every store of the dequantizing loop's trip `k` holds the dequantized activations. -/
theorem xpieces (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (k0_h1 : k0_cond1 i = 1#1) (X1 : BufTy.Contents (Elt F) arg1.view.ty) (X3 : BufTy.Contents (Elt F) arg3.view.ty) (k : Fin k0_t1_loop.trips) :
    ∀ p ∈ tripL_k0_t1 (F := F) 𝒱 c bd i arg1 harg1 arg2 harg2 arg3 harg3 arg4 harg4 arg5 harg5 arg6 harg6 arg7 harg7 arg8 harg8 k0_h1 X1 X3 k,
      ∀ x : p.1.shape.Idx, p.2 x = XD (arg1.view.read (Elt F) X1) (arg3.view.read (Elt F) X3) (p.1.emb x) := by
  unfold tripL_k0_t1 trip_k0_t1
  dsimp only
  refine List.forall_mem_cons.2 ⟨fun x => xpiece k.val 31 _ _ (k0_off63_eq k) (k0_off64_eq k) (k0_off63_inb i k k0_h1) (k0_off64_inb i k k0_h1) (arg1.view.read (Elt F) X1) (arg3.view.read (Elt F) X3) x, ?_⟩
  refine List.forall_mem_cons.2 ⟨fun x => xpiece k.val 30 _ _ (k0_off61_eq k) (k0_off62_eq k) (k0_off61_inb i k k0_h1) (k0_off62_inb i k k0_h1) (arg1.view.read (Elt F) X1) (arg3.view.read (Elt F) X3) x, ?_⟩
  refine List.forall_mem_cons.2 ⟨fun x => xpiece k.val 29 _ _ (k0_off59_eq k) (k0_off60_eq k) (k0_off59_inb i k k0_h1) (k0_off60_inb i k k0_h1) (arg1.view.read (Elt F) X1) (arg3.view.read (Elt F) X3) x, ?_⟩
  refine List.forall_mem_cons.2 ⟨fun x => xpiece k.val 28 _ _ (k0_off57_eq k) (k0_off58_eq k) (k0_off57_inb i k k0_h1) (k0_off58_inb i k k0_h1) (arg1.view.read (Elt F) X1) (arg3.view.read (Elt F) X3) x, ?_⟩
  refine List.forall_mem_cons.2 ⟨fun x => xpiece k.val 27 _ _ (k0_off55_eq k) (k0_off56_eq k) (k0_off55_inb i k k0_h1) (k0_off56_inb i k k0_h1) (arg1.view.read (Elt F) X1) (arg3.view.read (Elt F) X3) x, ?_⟩
  refine List.forall_mem_cons.2 ⟨fun x => xpiece k.val 26 _ _ (k0_off53_eq k) (k0_off54_eq k) (k0_off53_inb i k k0_h1) (k0_off54_inb i k k0_h1) (arg1.view.read (Elt F) X1) (arg3.view.read (Elt F) X3) x, ?_⟩
  refine List.forall_mem_cons.2 ⟨fun x => xpiece k.val 25 _ _ (k0_off51_eq k) (k0_off52_eq k) (k0_off51_inb i k k0_h1) (k0_off52_inb i k k0_h1) (arg1.view.read (Elt F) X1) (arg3.view.read (Elt F) X3) x, ?_⟩
  refine List.forall_mem_cons.2 ⟨fun x => xpiece k.val 24 _ _ (k0_off49_eq k) (k0_off50_eq k) (k0_off49_inb i k k0_h1) (k0_off50_inb i k k0_h1) (arg1.view.read (Elt F) X1) (arg3.view.read (Elt F) X3) x, ?_⟩
  refine List.forall_mem_cons.2 ⟨fun x => xpiece k.val 23 _ _ (k0_off47_eq k) (k0_off48_eq k) (k0_off47_inb i k k0_h1) (k0_off48_inb i k k0_h1) (arg1.view.read (Elt F) X1) (arg3.view.read (Elt F) X3) x, ?_⟩
  refine List.forall_mem_cons.2 ⟨fun x => xpiece k.val 22 _ _ (k0_off45_eq k) (k0_off46_eq k) (k0_off45_inb i k k0_h1) (k0_off46_inb i k k0_h1) (arg1.view.read (Elt F) X1) (arg3.view.read (Elt F) X3) x, ?_⟩
  refine List.forall_mem_cons.2 ⟨fun x => xpiece k.val 21 _ _ (k0_off43_eq k) (k0_off44_eq k) (k0_off43_inb i k k0_h1) (k0_off44_inb i k k0_h1) (arg1.view.read (Elt F) X1) (arg3.view.read (Elt F) X3) x, ?_⟩
  refine List.forall_mem_cons.2 ⟨fun x => xpiece k.val 20 _ _ (k0_off41_eq k) (k0_off42_eq k) (k0_off41_inb i k k0_h1) (k0_off42_inb i k k0_h1) (arg1.view.read (Elt F) X1) (arg3.view.read (Elt F) X3) x, ?_⟩
  refine List.forall_mem_cons.2 ⟨fun x => xpiece k.val 19 _ _ (k0_off39_eq k) (k0_off40_eq k) (k0_off39_inb i k k0_h1) (k0_off40_inb i k k0_h1) (arg1.view.read (Elt F) X1) (arg3.view.read (Elt F) X3) x, ?_⟩
  refine List.forall_mem_cons.2 ⟨fun x => xpiece k.val 18 _ _ (k0_off37_eq k) (k0_off38_eq k) (k0_off37_inb i k k0_h1) (k0_off38_inb i k k0_h1) (arg1.view.read (Elt F) X1) (arg3.view.read (Elt F) X3) x, ?_⟩
  refine List.forall_mem_cons.2 ⟨fun x => xpiece k.val 17 _ _ (k0_off35_eq k) (k0_off36_eq k) (k0_off35_inb i k k0_h1) (k0_off36_inb i k k0_h1) (arg1.view.read (Elt F) X1) (arg3.view.read (Elt F) X3) x, ?_⟩
  refine List.forall_mem_cons.2 ⟨fun x => xpiece k.val 16 _ _ (k0_off33_eq k) (k0_off34_eq k) (k0_off33_inb i k k0_h1) (k0_off34_inb i k k0_h1) (arg1.view.read (Elt F) X1) (arg3.view.read (Elt F) X3) x, ?_⟩
  refine List.forall_mem_cons.2 ⟨fun x => xpiece k.val 15 _ _ (k0_off31_eq k) (k0_off32_eq k) (k0_off31_inb i k k0_h1) (k0_off32_inb i k k0_h1) (arg1.view.read (Elt F) X1) (arg3.view.read (Elt F) X3) x, ?_⟩
  refine List.forall_mem_cons.2 ⟨fun x => xpiece k.val 14 _ _ (k0_off29_eq k) (k0_off30_eq k) (k0_off29_inb i k k0_h1) (k0_off30_inb i k k0_h1) (arg1.view.read (Elt F) X1) (arg3.view.read (Elt F) X3) x, ?_⟩
  refine List.forall_mem_cons.2 ⟨fun x => xpiece k.val 13 _ _ (k0_off27_eq k) (k0_off28_eq k) (k0_off27_inb i k k0_h1) (k0_off28_inb i k k0_h1) (arg1.view.read (Elt F) X1) (arg3.view.read (Elt F) X3) x, ?_⟩
  refine List.forall_mem_cons.2 ⟨fun x => xpiece k.val 12 _ _ (k0_off25_eq k) (k0_off26_eq k) (k0_off25_inb i k k0_h1) (k0_off26_inb i k k0_h1) (arg1.view.read (Elt F) X1) (arg3.view.read (Elt F) X3) x, ?_⟩
  refine List.forall_mem_cons.2 ⟨fun x => xpiece k.val 11 _ _ (k0_off23_eq k) (k0_off24_eq k) (k0_off23_inb i k k0_h1) (k0_off24_inb i k k0_h1) (arg1.view.read (Elt F) X1) (arg3.view.read (Elt F) X3) x, ?_⟩
  refine List.forall_mem_cons.2 ⟨fun x => xpiece k.val 10 _ _ (k0_off21_eq k) (k0_off22_eq k) (k0_off21_inb i k k0_h1) (k0_off22_inb i k k0_h1) (arg1.view.read (Elt F) X1) (arg3.view.read (Elt F) X3) x, ?_⟩
  refine List.forall_mem_cons.2 ⟨fun x => xpiece k.val 9 _ _ (k0_off19_eq k) (k0_off20_eq k) (k0_off19_inb i k k0_h1) (k0_off20_inb i k k0_h1) (arg1.view.read (Elt F) X1) (arg3.view.read (Elt F) X3) x, ?_⟩
  refine List.forall_mem_cons.2 ⟨fun x => xpiece k.val 8 _ _ (k0_off17_eq k) (k0_off18_eq k) (k0_off17_inb i k k0_h1) (k0_off18_inb i k k0_h1) (arg1.view.read (Elt F) X1) (arg3.view.read (Elt F) X3) x, ?_⟩
  refine List.forall_mem_cons.2 ⟨fun x => xpiece k.val 7 _ _ (k0_off15_eq k) (k0_off16_eq k) (k0_off15_inb i k k0_h1) (k0_off16_inb i k k0_h1) (arg1.view.read (Elt F) X1) (arg3.view.read (Elt F) X3) x, ?_⟩
  refine List.forall_mem_cons.2 ⟨fun x => xpiece k.val 6 _ _ (k0_off13_eq k) (k0_off14_eq k) (k0_off13_inb i k k0_h1) (k0_off14_inb i k k0_h1) (arg1.view.read (Elt F) X1) (arg3.view.read (Elt F) X3) x, ?_⟩
  refine List.forall_mem_cons.2 ⟨fun x => xpiece k.val 5 _ _ (k0_off11_eq k) (k0_off12_eq k) (k0_off11_inb i k k0_h1) (k0_off12_inb i k k0_h1) (arg1.view.read (Elt F) X1) (arg3.view.read (Elt F) X3) x, ?_⟩
  refine List.forall_mem_cons.2 ⟨fun x => xpiece k.val 4 _ _ (k0_off9_eq k) (k0_off10_eq k) (k0_off9_inb i k k0_h1) (k0_off10_inb i k k0_h1) (arg1.view.read (Elt F) X1) (arg3.view.read (Elt F) X3) x, ?_⟩
  refine List.forall_mem_cons.2 ⟨fun x => xpiece k.val 3 _ _ (k0_off7_eq k) (k0_off8_eq k) (k0_off7_inb i k k0_h1) (k0_off8_inb i k k0_h1) (arg1.view.read (Elt F) X1) (arg3.view.read (Elt F) X3) x, ?_⟩
  refine List.forall_mem_cons.2 ⟨fun x => xpiece k.val 2 _ _ (k0_off5_eq k) (k0_off6_eq k) (k0_off5_inb i k k0_h1) (k0_off6_inb i k k0_h1) (arg1.view.read (Elt F) X1) (arg3.view.read (Elt F) X3) x, ?_⟩
  refine List.forall_mem_cons.2 ⟨fun x => xpiece k.val 1 _ _ (k0_off3_eq k) (k0_off4_eq k) (k0_off3_inb i k k0_h1) (k0_off4_inb i k k0_h1) (arg1.view.read (Elt F) X1) (arg3.view.read (Elt F) X3) x, ?_⟩
  refine List.forall_mem_cons.2 ⟨fun x => xpiece k.val 0 _ _ (k0_off1_eq k) (k0_off2_eq k) (k0_off1_inb i k k0_h1) (k0_off2_inb i k k0_h1) (arg1.view.read (Elt F) X1) (arg3.view.read (Elt F) X3) x, ?_⟩
  exact fun p hp => absurd hp List.not_mem_nil

/-- The stores of trip `k` reach every entry of its 512 rows. -/
theorem xcover (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (k0_h1 : k0_cond1 i = 1#1) (X1 : BufTy.Contents (Elt F) arg1.view.ty) (X3 : BufTy.Contents (Elt F) arg3.view.ty) (k : Fin k0_t1_loop.trips)
    (y : S3072x4096.Idx) (hy : (y 0).val / 512 = k.val) :
    ∃ p ∈ tripL_k0_t1 (F := F) 𝒱 c bd i arg1 harg1 arg2 harg2 arg3 harg3 arg4 harg4 arg5 harg5 arg6 harg6 arg7 harg7 arg8 harg8 k0_h1 X1 X3 k, y ∈ p.1.set := by
  have h1 : (y 1).val < 4096 := (y 1).isLt
  have hin : ∀ (g : ℕ) (o : Fin 2 → ℕ) (ho : o = ![512 * k.val, 128 * g]) (b : ∀ a, o a + S512x128.size a ≤ S3072x4096.size a)
      (hg : (y 1).val / 128 = g), y ∈ (Rect.unit (s := S3072x4096) o S512x128.size b).set := by
    intro g o ho b hg
    subst ho
    rw [Rect.mem_set_unit]
    rw [Fin.forall_fin_two]
    constructor
    · show 512 * k.val ≤ (y 0).val ∧ (y 0).val < 512 * k.val + 512; omega
    · show 128 * g ≤ (y 1).val ∧ (y 1).val < 128 * g + 128; omega
  unfold tripL_k0_t1 trip_k0_t1
  dsimp only
  obtain ⟨g, hg⟩ : ∃ g, (y 1).val / 128 = g := ⟨_, rfl⟩
  have hg32 : g < 32 := by omega
  match g, hg, hg32 with
  | 0, hg, _ => exact ⟨_, List.getElem_mem (n := 31) (by simp), hin 0 _ (k0_off2_eq k) (k0_off2_inb i k k0_h1) hg⟩
  | 1, hg, _ => exact ⟨_, List.getElem_mem (n := 30) (by simp), hin 1 _ (k0_off4_eq k) (k0_off4_inb i k k0_h1) hg⟩
  | 2, hg, _ => exact ⟨_, List.getElem_mem (n := 29) (by simp), hin 2 _ (k0_off6_eq k) (k0_off6_inb i k k0_h1) hg⟩
  | 3, hg, _ => exact ⟨_, List.getElem_mem (n := 28) (by simp), hin 3 _ (k0_off8_eq k) (k0_off8_inb i k k0_h1) hg⟩
  | 4, hg, _ => exact ⟨_, List.getElem_mem (n := 27) (by simp), hin 4 _ (k0_off10_eq k) (k0_off10_inb i k k0_h1) hg⟩
  | 5, hg, _ => exact ⟨_, List.getElem_mem (n := 26) (by simp), hin 5 _ (k0_off12_eq k) (k0_off12_inb i k k0_h1) hg⟩
  | 6, hg, _ => exact ⟨_, List.getElem_mem (n := 25) (by simp), hin 6 _ (k0_off14_eq k) (k0_off14_inb i k k0_h1) hg⟩
  | 7, hg, _ => exact ⟨_, List.getElem_mem (n := 24) (by simp), hin 7 _ (k0_off16_eq k) (k0_off16_inb i k k0_h1) hg⟩
  | 8, hg, _ => exact ⟨_, List.getElem_mem (n := 23) (by simp), hin 8 _ (k0_off18_eq k) (k0_off18_inb i k k0_h1) hg⟩
  | 9, hg, _ => exact ⟨_, List.getElem_mem (n := 22) (by simp), hin 9 _ (k0_off20_eq k) (k0_off20_inb i k k0_h1) hg⟩
  | 10, hg, _ => exact ⟨_, List.getElem_mem (n := 21) (by simp), hin 10 _ (k0_off22_eq k) (k0_off22_inb i k k0_h1) hg⟩
  | 11, hg, _ => exact ⟨_, List.getElem_mem (n := 20) (by simp), hin 11 _ (k0_off24_eq k) (k0_off24_inb i k k0_h1) hg⟩
  | 12, hg, _ => exact ⟨_, List.getElem_mem (n := 19) (by simp), hin 12 _ (k0_off26_eq k) (k0_off26_inb i k k0_h1) hg⟩
  | 13, hg, _ => exact ⟨_, List.getElem_mem (n := 18) (by simp), hin 13 _ (k0_off28_eq k) (k0_off28_inb i k k0_h1) hg⟩
  | 14, hg, _ => exact ⟨_, List.getElem_mem (n := 17) (by simp), hin 14 _ (k0_off30_eq k) (k0_off30_inb i k k0_h1) hg⟩
  | 15, hg, _ => exact ⟨_, List.getElem_mem (n := 16) (by simp), hin 15 _ (k0_off32_eq k) (k0_off32_inb i k k0_h1) hg⟩
  | 16, hg, _ => exact ⟨_, List.getElem_mem (n := 15) (by simp), hin 16 _ (k0_off34_eq k) (k0_off34_inb i k k0_h1) hg⟩
  | 17, hg, _ => exact ⟨_, List.getElem_mem (n := 14) (by simp), hin 17 _ (k0_off36_eq k) (k0_off36_inb i k k0_h1) hg⟩
  | 18, hg, _ => exact ⟨_, List.getElem_mem (n := 13) (by simp), hin 18 _ (k0_off38_eq k) (k0_off38_inb i k k0_h1) hg⟩
  | 19, hg, _ => exact ⟨_, List.getElem_mem (n := 12) (by simp), hin 19 _ (k0_off40_eq k) (k0_off40_inb i k k0_h1) hg⟩
  | 20, hg, _ => exact ⟨_, List.getElem_mem (n := 11) (by simp), hin 20 _ (k0_off42_eq k) (k0_off42_inb i k k0_h1) hg⟩
  | 21, hg, _ => exact ⟨_, List.getElem_mem (n := 10) (by simp), hin 21 _ (k0_off44_eq k) (k0_off44_inb i k k0_h1) hg⟩
  | 22, hg, _ => exact ⟨_, List.getElem_mem (n := 9) (by simp), hin 22 _ (k0_off46_eq k) (k0_off46_inb i k k0_h1) hg⟩
  | 23, hg, _ => exact ⟨_, List.getElem_mem (n := 8) (by simp), hin 23 _ (k0_off48_eq k) (k0_off48_inb i k k0_h1) hg⟩
  | 24, hg, _ => exact ⟨_, List.getElem_mem (n := 7) (by simp), hin 24 _ (k0_off50_eq k) (k0_off50_inb i k k0_h1) hg⟩
  | 25, hg, _ => exact ⟨_, List.getElem_mem (n := 6) (by simp), hin 25 _ (k0_off52_eq k) (k0_off52_inb i k k0_h1) hg⟩
  | 26, hg, _ => exact ⟨_, List.getElem_mem (n := 5) (by simp), hin 26 _ (k0_off54_eq k) (k0_off54_inb i k k0_h1) hg⟩
  | 27, hg, _ => exact ⟨_, List.getElem_mem (n := 4) (by simp), hin 27 _ (k0_off56_eq k) (k0_off56_inb i k k0_h1) hg⟩
  | 28, hg, _ => exact ⟨_, List.getElem_mem (n := 3) (by simp), hin 28 _ (k0_off58_eq k) (k0_off58_inb i k k0_h1) hg⟩
  | 29, hg, _ => exact ⟨_, List.getElem_mem (n := 2) (by simp), hin 29 _ (k0_off60_eq k) (k0_off60_inb i k k0_h1) hg⟩
  | 30, hg, _ => exact ⟨_, List.getElem_mem (n := 1) (by simp), hin 30 _ (k0_off62_eq k) (k0_off62_inb i k k0_h1) hg⟩
  | 31, hg, _ => exact ⟨_, List.getElem_mem (n := 0) (by simp), hin 31 _ (k0_off64_eq k) (k0_off64_inb i k k0_h1) hg⟩
  | n + 32, _, h => exact absurd h (by omega)

end Cert.KernelIdeal.Hand
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import proofs.«01_k».proof.Proof.Body
public import Idealize.ShloMosaic.Lib.Pipeline.Frame
public import Idealize.ShloMosaic.Lib.Pipeline.Value
public import Idealize.ShloMosaic.Lib.Pipeline.ValueKit.Tiles
public import Idealize.ShloMosaic.Lib.Tactic

/-! The kernel body run once, at the first grid point and at the others. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]
local notation "𝕄" => MT nD τ sig Unit (Elt F) ℕ (UR sig nD τ) ℕ

theorem trips1 : k0_t1_loop.trips = 6 := by decide +kernel
theorem trips2 : k0_t2_loop.trips = 6 := by decide +kernel

/-- Every store of the dequantizing loop before trip `n` holds the dequantized activations. -/
theorem xpb (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (k0_h1 : k0_cond1 i = 1#1) (X1 : BufTy.Contents (Elt F) arg1.view.ty) (X3 : BufTy.Contents (Elt F) arg3.view.ty) (n : ℕ) (hn : n ≤ k0_t1_loop.trips) :
    ∀ p ∈ pb_k0_t1 (F := F) 𝒱 c bd i arg1 harg1 arg2 harg2 arg3 harg3 arg4 harg4 arg5 harg5 arg6 harg6 arg7 harg7 arg8 harg8 k0_h1 X1 X3 n, ∀ x : p.1.shape.Idx, p.2 x = XD (arg1.view.read (Elt F) X1) (arg3.view.read (Elt F) X3) (p.1.emb x) := by
  induction n with
  | zero => unfold pb_k0_t1; exact fun p hp => absurd hp List.not_mem_nil
  | succ n ih =>
    rw [pb_k0_t1_succ (F := F) 𝒱 c bd i arg1 harg1 arg2 harg2 arg3 harg3 arg4 harg4 arg5 harg5 arg6 harg6 arg7 harg7 arg8 harg8 k0_h1 X1 X3 ⟨n, hn⟩]
    intro p hp
    rcases List.mem_append.1 hp with h | h
    · exact xpieces 𝒱 c bd i arg1 harg1 arg2 harg2 arg3 harg3 arg4 harg4 arg5 harg5 arg6 harg6 arg7 harg7 arg8 harg8 k0_h1 X1 X3 ⟨n, hn⟩ p h
    · exact ih (Nat.le_of_succ_le hn) p h

/-- They reach every entry of the rows of those trips. -/
theorem xpb_cover (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (k0_h1 : k0_cond1 i = 1#1) (X1 : BufTy.Contents (Elt F) arg1.view.ty) (X3 : BufTy.Contents (Elt F) arg3.view.ty) (y : S3072x4096.Idx) (n : ℕ) (hn : n ≤ k0_t1_loop.trips) (hy : (y 0).val / 512 < n) :
    ∃ p ∈ pb_k0_t1 (F := F) 𝒱 c bd i arg1 harg1 arg2 harg2 arg3 harg3 arg4 harg4 arg5 harg5 arg6 harg6 arg7 harg7 arg8 harg8 k0_h1 X1 X3 n, y ∈ p.1.set := by
  induction n with
  | zero => exact absurd hy (Nat.not_lt_zero _)
  | succ n ih =>
    rw [pb_k0_t1_succ (F := F) 𝒱 c bd i arg1 harg1 arg2 harg2 arg3 harg3 arg4 harg4 arg5 harg5 arg6 harg6 arg7 harg7 arg8 harg8 k0_h1 X1 X3 ⟨n, hn⟩]
    by_cases h : (y 0).val / 512 = n
    · obtain ⟨p, hp, hyp⟩ := xcover 𝒱 c bd i arg1 harg1 arg2 harg2 arg3 harg3 arg4 harg4 arg5 harg5 arg6 harg6 arg7 harg7 arg8 harg8 k0_h1 X1 X3 ⟨n, hn⟩ y h
      exact ⟨p, List.mem_append_left _ hp, hyp⟩
    · obtain ⟨p, hp, hyp⟩ := ih (Nat.le_of_succ_le hn) (by omega)
      exact ⟨p, List.mem_append_right _ hp, hyp⟩

/-- The first scratch buffer after the dequantizing loop. -/
theorem read_x (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (k0_h1 : k0_cond1 i = 1#1) (X1 : BufTy.Contents (Elt F) arg1.view.ty) (X3 : BufTy.Contents (Elt F) arg3.view.ty) (X7 : BufTy.Contents (Elt F) arg7.view.ty) :
    arg7.view.read (Elt F) (arg7.view.writes (Elt F) X7 (pb_k0_t1 (F := F) 𝒱 c bd i arg1 harg1 arg2 harg2 arg3 harg3 arg4 harg4 arg5 harg5 arg6 harg6 arg7 harg7 arg8 harg8 k0_h1 X1 X3 k0_t1_loop.trips)) = XD (arg1.view.read (Elt F) X1) (arg3.view.read (Elt F) X3) := by
  funext y
  refine View.read_writes_apply_of_pieces _ _ _ _ (xpb 𝒱 c bd i arg1 harg1 arg2 harg2 arg3 harg3 arg4 harg4 arg5 harg5 arg6 harg6 arg7 harg7 arg8 harg8 k0_h1 X1 X3 _ le_rfl) y ?_
  refine xpb_cover 𝒱 c bd i arg1 harg1 arg2 harg2 arg3 harg3 arg4 harg4 arg5 harg5 arg6 harg6 arg7 harg7 arg8 harg8 k0_h1 X1 X3 y _ le_rfl ?_
  have h0 : (y 0).val < 3072 := (y 0).isLt
  rw [trips1]; omega

/-- Every store of the product loop before trip `n` holds the output block. -/
theorem opb (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (X5 : BufTy.Contents (Elt F) arg5.view.ty) (X7 : BufTy.Contents (Elt F) arg7.view.ty) (X8 : BufTy.Contents (Elt F) arg8.view.ty) (n : ℕ) (hn : n ≤ k0_t2_loop.trips) :
    ∀ p ∈ pb_k0_t2 (F := F) 𝒱 c bd i arg1 harg1 arg2 harg2 arg3 harg3 arg4 harg4 arg5 harg5 arg6 harg6 arg7 harg7 arg8 harg8 X5 X7 X8 n, ∀ x : p.1.shape.Idx, p.2 x = OUT (arg7.view.read (Elt F) X7) (arg8.view.read (Elt F) X8) (arg5.view.read (Elt F) X5) (p.1.emb x) := by
  induction n with
  | zero => unfold pb_k0_t2; exact fun p hp => absurd hp List.not_mem_nil
  | succ n ih =>
    rw [pb_k0_t2_succ (F := F) 𝒱 c bd i arg1 harg1 arg2 harg2 arg3 harg3 arg4 harg4 arg5 harg5 arg6 harg6 arg7 harg7 arg8 harg8 X5 X7 X8 ⟨n, hn⟩]
    intro p hp
    rcases List.mem_append.1 hp with h | h
    · revert p
      unfold tripL_k0_t2 trip_k0_t2
      dsimp only
      intro p _ hp
      rcases List.mem_singleton.1 hp with rfl
      intro x
      exact opiece n (Nat.lt_of_lt_of_le hn trips2.le) _ _ _ (k0_off97_eq ⟨n, hn⟩) (k0_off98_eq ⟨n, hn⟩) (k0_off98_eq ⟨n, hn⟩)
        (k0_off97_inb ⟨n, hn⟩) (k0_off98_inb ⟨n, hn⟩) (k0_off98_inb ⟨n, hn⟩) inb_S256x4096_S256x4096_0_0
        (arg7.view.read (Elt F) X7) (arg8.view.read (Elt F) X8) (arg5.view.read (Elt F) X5) x
    · exact ih (Nat.le_of_succ_le hn) p h

/-- They reach every entry of the rows of those trips. -/
theorem opb_cover (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (X5 : BufTy.Contents (Elt F) arg5.view.ty) (X7 : BufTy.Contents (Elt F) arg7.view.ty) (X8 : BufTy.Contents (Elt F) arg8.view.ty) (y : S3072x256.Idx) (n : ℕ) (hn : n ≤ k0_t2_loop.trips) (hy : (y 0).val / 512 < n) :
    ∃ p ∈ pb_k0_t2 (F := F) 𝒱 c bd i arg1 harg1 arg2 harg2 arg3 harg3 arg4 harg4 arg5 harg5 arg6 harg6 arg7 harg7 arg8 harg8 X5 X7 X8 n, y ∈ p.1.set := by
  induction n with
  | zero => exact absurd hy (Nat.not_lt_zero _)
  | succ n ih =>
    rw [pb_k0_t2_succ (F := F) 𝒱 c bd i arg1 harg1 arg2 harg2 arg3 harg3 arg4 harg4 arg5 harg5 arg6 harg6 arg7 harg7 arg8 harg8 X5 X7 X8 ⟨n, hn⟩]
    by_cases h : (y 0).val / 512 = n
    · unfold tripL_k0_t2 trip_k0_t2
      dsimp only
      refine ⟨_, List.mem_append_left _ List.mem_cons_self, ?_⟩
      show y ∈ (Rect.unit (s := S3072x256) (k0_off98 ⟨n, hn⟩) S512x256.size (k0_off98_inb ⟨n, hn⟩)).set
      have hy1 : (y 1).val < 256 := (y 1).isLt
      rw [Rect.mem_set_unit]
      intro a
      rw [k0_off98_eq]
      revert a; rw [Fin.forall_fin_two]
      constructor
      · show 512 * n ≤ (y 0).val ∧ (y 0).val < 512 * n + 512; omega
      · show 0 ≤ (y 1).val ∧ (y 1).val < 0 + 256; omega
    · obtain ⟨p, hp, hyp⟩ := ih (Nat.le_of_succ_le hn) (by omega)
      exact ⟨p, List.mem_append_right _ hp, hyp⟩

/-- The output block after the product loop. -/
theorem read_o (𝒱 : Variants) (c : Dev nD) (bd : Option 𝒱.V) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole)
    (X5 : BufTy.Contents (Elt F) arg5.view.ty) (X7 : BufTy.Contents (Elt F) arg7.view.ty) (X8 : BufTy.Contents (Elt F) arg8.view.ty) (X6 : BufTy.Contents (Elt F) arg6.view.ty) :
    arg6.view.read (Elt F) (arg6.view.writes (Elt F) X6 (pb_k0_t2 (F := F) 𝒱 c bd i arg1 harg1 arg2 harg2 arg3 harg3 arg4 harg4 arg5 harg5 arg6 harg6 arg7 harg7 arg8 harg8 X5 X7 X8 k0_t2_loop.trips)) = OUT (arg7.view.read (Elt F) X7) (arg8.view.read (Elt F) X8) (arg5.view.read (Elt F) X5) := by
  funext y
  refine View.read_writes_apply_of_pieces _ _ _ _ (opb 𝒱 c bd i arg1 harg1 arg2 harg2 arg3 harg3 arg4 harg4 arg5 harg5 arg6 harg6 arg7 harg7 arg8 harg8 X5 X7 X8 _ le_rfl) y ?_
  refine opb_cover 𝒱 c bd i arg1 harg1 arg2 harg2 arg3 harg3 arg4 harg4 arg5 harg5 arg6 harg6 arg7 harg7 arg8 harg8 X5 X7 X8 y _ le_rfl ?_
  have h0 : (y 0).val < 3072 := (y 0).isLt
  rw [trips2]; omega

/-- Sixty-four tiles of 128 rows and 128 columns reach every entry of the weight block. -/
theorem wcover (L : List (View.Piece (Elt F) S256x4096 .bf16)) (h : View.Piece.tiled L ![128, 128] = true) (y : S256x4096.Idx) :
    ∃ p ∈ L, y ∈ p.1.set :=
  View.cover_of_tiled L ![128, 128] h y

set_option maxHeartbeats 4000000 in
/-- The body at the first grid point: it dequantizes the activations, whatever the scratch held. -/
theorem runFirst (c : Dev nD) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole) (hk : k0_cond1 i = 1#1)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty) :
  iprop((arg1.view.loc (c : Thread nD τ) ↦[arg1.view.set]{fullShare} X1)
     ∗ (arg2.view.loc (c : Thread nD τ) ↦[arg2.view.set]{fullShare} X2)
     ∗ (arg3.view.loc (c : Thread nD τ) ↦[arg3.view.set]{fullShare} X3)
     ∗ (arg4.view.loc (c : Thread nD τ) ↦[arg4.view.set]{fullShare} X4)
     ∗ (arg5.view.loc (c : Thread nD τ) ↦[arg5.view.set]{fullShare} X5)
     ∗ (arg6.view.loc (c : Thread nD τ) ↦[arg6.view.set]{fullShare} X6)
     ∗ (arg7.view.loc (c : Thread nD τ) ↦[arg7.view.set]{fullShare} X7)
     ∗ (arg8.view.loc (c : Thread nD τ) ↦[arg8.view.set]{fullShare} X8))
  ⊢ wp frame (wpE (defs₀ (F := F)) Variants.none (c : Thread nD τ) none) Set.univ (cc0_down_proj (F := F) i arg1 harg1 arg2 harg2 arg3 harg3 arg4 harg4 arg5 harg5 arg6 harg6 arg7 harg7 arg8 harg8)
     (fun _ => (iprop(owns (c : Thread nD τ) arg1 fullShare (arg1.view.read (Elt F) X1)
     ∗ owns (c : Thread nD τ) arg2 fullShare (arg2.view.read (Elt F) X2)
     ∗ owns (c : Thread nD τ) arg3 fullShare (arg3.view.read (Elt F) X3)
     ∗ owns (c : Thread nD τ) arg4 fullShare (arg4.view.read (Elt F) X4)
     ∗ owns (c : Thread nD τ) arg5 fullShare (arg5.view.read (Elt F) X5)
     ∗ owns (c : Thread nD τ) arg6 fullShare (OUT (XD (arg1.view.read (Elt F) X1) (arg3.view.read (Elt F) X3)) (WD i (arg2.view.read (Elt F) X2) (arg4.view.read (Elt F) X4)) (arg5.view.read (Elt F) X5))
     ∗ owns (c : Thread nD τ) arg7 fullShare (XD (arg1.view.read (Elt F) X1) (arg3.view.read (Elt F) X3))
     ∗ owns (c : Thread nD τ) arg8 fullShare (WD i (arg2.view.read (Elt F) X2) (arg4.view.read (Elt F) X4))) : sProp 𝕄)) := by
  simp only [cc0_down_proj_eq_skeleton]; unfold cc0_down_proj_skel
  iintro ⟨H1, H2, H3, H4, H5, H6, H7, H8⟩
  sl_exec (disch := exact hk)
  sl_step
  have hw : ∀ p ∈ runFirst.sl.H8_64 (F := F) i arg2 arg4 X2 X4, ∀ x : p.1.shape.Idx,
      p.2 x = WD i (arg2.view.read (Elt F) X2) (arg4.view.read (Elt F) X4) (p.1.emb x) := by
    unfold runFirst.sl.H8_64
    refine List.forall_mem_cons.2 ⟨fun x => wpiece i 1 31 (by omega) _ _ (k0_off96_eq i ⟨1, by omega⟩) rfl (k0_off96_inb i ⟨1, by omega⟩) inb_S256x4096_S128x128_128_3968 (arg2.view.read (Elt F) X2) (arg4.view.read (Elt F) X4) _ x, ?_⟩
    refine List.forall_mem_cons.2 ⟨fun x => wpiece i 1 30 (by omega) _ _ (k0_off95_eq i ⟨1, by omega⟩) rfl (k0_off95_inb i ⟨1, by omega⟩) inb_S256x4096_S128x128_128_3840 (arg2.view.read (Elt F) X2) (arg4.view.read (Elt F) X4) _ x, ?_⟩
    refine List.forall_mem_cons.2 ⟨fun x => wpiece i 1 29 (by omega) _ _ (k0_off94_eq i ⟨1, by omega⟩) rfl (k0_off94_inb i ⟨1, by omega⟩) inb_S256x4096_S128x128_128_3712 (arg2.view.read (Elt F) X2) (arg4.view.read (Elt F) X4) _ x, ?_⟩
    refine List.forall_mem_cons.2 ⟨fun x => wpiece i 1 28 (by omega) _ _ (k0_off93_eq i ⟨1, by omega⟩) rfl (k0_off93_inb i ⟨1, by omega⟩) inb_S256x4096_S128x128_128_3584 (arg2.view.read (Elt F) X2) (arg4.view.read (Elt F) X4) _ x, ?_⟩
    refine List.forall_mem_cons.2 ⟨fun x => wpiece i 1 27 (by omega) _ _ (k0_off92_eq i ⟨1, by omega⟩) rfl (k0_off92_inb i ⟨1, by omega⟩) inb_S256x4096_S128x128_128_3456 (arg2.view.read (Elt F) X2) (arg4.view.read (Elt F) X4) _ x, ?_⟩
    refine List.forall_mem_cons.2 ⟨fun x => wpiece i 1 26 (by omega) _ _ (k0_off91_eq i ⟨1, by omega⟩) rfl (k0_off91_inb i ⟨1, by omega⟩) inb_S256x4096_S128x128_128_3328 (arg2.view.read (Elt F) X2) (arg4.view.read (Elt F) X4) _ x, ?_⟩
    refine List.forall_mem_cons.2 ⟨fun x => wpiece i 1 25 (by omega) _ _ (k0_off90_eq i ⟨1, by omega⟩) rfl (k0_off90_inb i ⟨1, by omega⟩) inb_S256x4096_S128x128_128_3200 (arg2.view.read (Elt F) X2) (arg4.view.read (Elt F) X4) _ x, ?_⟩
    refine List.forall_mem_cons.2 ⟨fun x => wpiece i 1 24 (by omega) _ _ (k0_off89_eq i ⟨1, by omega⟩) rfl (k0_off89_inb i ⟨1, by omega⟩) inb_S256x4096_S128x128_128_3072 (arg2.view.read (Elt F) X2) (arg4.view.read (Elt F) X4) _ x, ?_⟩
    refine List.forall_mem_cons.2 ⟨fun x => wpiece i 1 23 (by omega) _ _ (k0_off88_eq i ⟨1, by omega⟩) rfl (k0_off88_inb i ⟨1, by omega⟩) inb_S256x4096_S128x128_128_2944 (arg2.view.read (Elt F) X2) (arg4.view.read (Elt F) X4) _ x, ?_⟩
    refine List.forall_mem_cons.2 ⟨fun x => wpiece i 1 22 (by omega) _ _ (k0_off87_eq i ⟨1, by omega⟩) rfl (k0_off87_inb i ⟨1, by omega⟩) inb_S256x4096_S128x128_128_2816 (arg2.view.read (Elt F) X2) (arg4.view.read (Elt F) X4) _ x, ?_⟩
    refine List.forall_mem_cons.2 ⟨fun x => wpiece i 1 21 (by omega) _ _ (k0_off86_eq i ⟨1, by omega⟩) rfl (k0_off86_inb i ⟨1, by omega⟩) inb_S256x4096_S128x128_128_2688 (arg2.view.read (Elt F) X2) (arg4.view.read (Elt F) X4) _ x, ?_⟩
    refine List.forall_mem_cons.2 ⟨fun x => wpiece i 1 20 (by omega) _ _ (k0_off85_eq i ⟨1, by omega⟩) rfl (k0_off85_inb i ⟨1, by omega⟩) inb_S256x4096_S128x128_128_2560 (arg2.view.read (Elt F) X2) (arg4.view.read (Elt F) X4) _ x, ?_⟩
    refine List.forall_mem_cons.2 ⟨fun x => wpiece i 1 19 (by omega) _ _ (k0_off84_eq i ⟨1, by omega⟩) rfl (k0_off84_inb i ⟨1, by omega⟩) inb_S256x4096_S128x128_128_2432 (arg2.view.read (Elt F) X2) (arg4.view.read (Elt F) X4) _ x, ?_⟩
    refine List.forall_mem_cons.2 ⟨fun x => wpiece i 1 18 (by omega) _ _ (k0_off83_eq i ⟨1, by omega⟩) rfl (k0_off83_inb i ⟨1, by omega⟩) inb_S256x4096_S128x128_128_2304 (arg2.view.read (Elt F) X2) (arg4.view.read (Elt F) X4) _ x, ?_⟩
    refine List.forall_mem_cons.2 ⟨fun x => wpiece i 1 17 (by omega) _ _ (k0_off82_eq i ⟨1, by omega⟩) rfl (k0_off82_inb i ⟨1, by omega⟩) inb_S256x4096_S128x128_128_2176 (arg2.view.read (Elt F) X2) (arg4.view.read (Elt F) X4) _ x, ?_⟩
    refine List.forall_mem_cons.2 ⟨fun x => wpiece i 1 16 (by omega) _ _ (k0_off81_eq i ⟨1, by omega⟩) rfl (k0_off81_inb i ⟨1, by omega⟩) inb_S256x4096_S128x128_128_2048 (arg2.view.read (Elt F) X2) (arg4.view.read (Elt F) X4) _ x, ?_⟩
    refine List.forall_mem_cons.2 ⟨fun x => wpiece i 1 15 (by omega) _ _ (k0_off80_eq i ⟨1, by omega⟩) rfl (k0_off80_inb i ⟨1, by omega⟩) inb_S256x4096_S128x128_128_1920 (arg2.view.read (Elt F) X2) (arg4.view.read (Elt F) X4) _ x, ?_⟩
    refine List.forall_mem_cons.2 ⟨fun x => wpiece i 1 14 (by omega) _ _ (k0_off79_eq i ⟨1, by omega⟩) rfl (k0_off79_inb i ⟨1, by omega⟩) inb_S256x4096_S128x128_128_1792 (arg2.view.read (Elt F) X2) (arg4.view.read (Elt F) X4) _ x, ?_⟩
    refine List.forall_mem_cons.2 ⟨fun x => wpiece i 1 13 (by omega) _ _ (k0_off78_eq i ⟨1, by omega⟩) rfl (k0_off78_inb i ⟨1, by omega⟩) inb_S256x4096_S128x128_128_1664 (arg2.view.read (Elt F) X2) (arg4.view.read (Elt F) X4) _ x, ?_⟩
    refine List.forall_mem_cons.2 ⟨fun x => wpiece i 1 12 (by omega) _ _ (k0_off77_eq i ⟨1, by omega⟩) rfl (k0_off77_inb i ⟨1, by omega⟩) inb_S256x4096_S128x128_128_1536 (arg2.view.read (Elt F) X2) (arg4.view.read (Elt F) X4) _ x, ?_⟩
    refine List.forall_mem_cons.2 ⟨fun x => wpiece i 1 11 (by omega) _ _ (k0_off76_eq i ⟨1, by omega⟩) rfl (k0_off76_inb i ⟨1, by omega⟩) inb_S256x4096_S128x128_128_1408 (arg2.view.read (Elt F) X2) (arg4.view.read (Elt F) X4) _ x, ?_⟩
    refine List.forall_mem_cons.2 ⟨fun x => wpiece i 1 10 (by omega) _ _ (k0_off75_eq i ⟨1, by omega⟩) rfl (k0_off75_inb i ⟨1, by omega⟩) inb_S256x4096_S128x128_128_1280 (arg2.view.read (Elt F) X2) (arg4.view.read (Elt F) X4) _ x, ?_⟩
    refine List.forall_mem_cons.2 ⟨fun x => wpiece i 1 9 (by omega) _ _ (k0_off74_eq i ⟨1, by omega⟩) rfl (k0_off74_inb i ⟨1, by omega⟩) inb_S256x4096_S128x128_128_1152 (arg2.view.read (Elt F) X2) (arg4.view.read (Elt F) X4) _ x, ?_⟩
    refine List.forall_mem_cons.2 ⟨fun x => wpiece i 1 8 (by omega) _ _ (k0_off73_eq i ⟨1, by omega⟩) rfl (k0_off73_inb i ⟨1, by omega⟩) inb_S256x4096_S128x128_128_1024 (arg2.view.read (Elt F) X2) (arg4.view.read (Elt F) X4) _ x, ?_⟩
    refine List.forall_mem_cons.2 ⟨fun x => wpiece i 1 7 (by omega) _ _ (k0_off72_eq i ⟨1, by omega⟩) rfl (k0_off72_inb i ⟨1, by omega⟩) inb_S256x4096_S128x128_128_896 (arg2.view.read (Elt F) X2) (arg4.view.read (Elt F) X4) _ x, ?_⟩
    refine List.forall_mem_cons.2 ⟨fun x => wpiece i 1 6 (by omega) _ _ (k0_off71_eq i ⟨1, by omega⟩) rfl (k0_off71_inb i ⟨1, by omega⟩) inb_S256x4096_S128x128_128_768 (arg2.view.read (Elt F) X2) (arg4.view.read (Elt F) X4) _ x, ?_⟩
    refine List.forall_mem_cons.2 ⟨fun x => wpiece i 1 5 (by omega) _ _ (k0_off70_eq i ⟨1, by omega⟩) rfl (k0_off70_inb i ⟨1, by omega⟩) inb_S256x4096_S128x128_128_640 (arg2.view.read (Elt F) X2) (arg4.view.read (Elt F) X4) _ x, ?_⟩
    refine List.forall_mem_cons.2 ⟨fun x => wpiece i 1 4 (by omega) _ _ (k0_off69_eq i ⟨1, by omega⟩) rfl (k0_off69_inb i ⟨1, by omega⟩) inb_S256x4096_S128x128_128_512 (arg2.view.read (Elt F) X2) (arg4.view.read (Elt F) X4) _ x, ?_⟩
    refine List.forall_mem_cons.2 ⟨fun x => wpiece i 1 3 (by omega) _ _ (k0_off68_eq i ⟨1, by omega⟩) rfl (k0_off68_inb i ⟨1, by omega⟩) inb_S256x4096_S128x128_128_384 (arg2.view.read (Elt F) X2) (arg4.view.read (Elt F) X4) _ x, ?_⟩
    refine List.forall_mem_cons.2 ⟨fun x => wpiece i 1 2 (by omega) _ _ (k0_off67_eq i ⟨1, by omega⟩) rfl (k0_off67_inb i ⟨1, by omega⟩) inb_S256x4096_S128x128_128_256 (arg2.view.read (Elt F) X2) (arg4.view.read (Elt F) X4) _ x, ?_⟩
    refine List.forall_mem_cons.2 ⟨fun x => wpiece i 1 1 (by omega) _ _ (k0_off66_eq i ⟨1, by omega⟩) rfl (k0_off66_inb i ⟨1, by omega⟩) inb_S256x4096_S128x128_128_128 (arg2.view.read (Elt F) X2) (arg4.view.read (Elt F) X4) _ x, ?_⟩
    refine List.forall_mem_cons.2 ⟨fun x => wpiece i 1 0 (by omega) _ _ (k0_off65_eq i ⟨1, by omega⟩) rfl (k0_off65_inb i ⟨1, by omega⟩) inb_S256x4096_S128x128_128_0 (arg2.view.read (Elt F) X2) (arg4.view.read (Elt F) X4) _ x, ?_⟩
    refine List.forall_mem_cons.2 ⟨fun x => wpiece i 0 31 (by omega) _ _ (k0_off96_eq i ⟨0, by omega⟩) rfl (k0_off96_inb i ⟨0, by omega⟩) inb_S256x4096_S128x128_0_3968 (arg2.view.read (Elt F) X2) (arg4.view.read (Elt F) X4) _ x, ?_⟩
    refine List.forall_mem_cons.2 ⟨fun x => wpiece i 0 30 (by omega) _ _ (k0_off95_eq i ⟨0, by omega⟩) rfl (k0_off95_inb i ⟨0, by omega⟩) inb_S256x4096_S128x128_0_3840 (arg2.view.read (Elt F) X2) (arg4.view.read (Elt F) X4) _ x, ?_⟩
    refine List.forall_mem_cons.2 ⟨fun x => wpiece i 0 29 (by omega) _ _ (k0_off94_eq i ⟨0, by omega⟩) rfl (k0_off94_inb i ⟨0, by omega⟩) inb_S256x4096_S128x128_0_3712 (arg2.view.read (Elt F) X2) (arg4.view.read (Elt F) X4) _ x, ?_⟩
    refine List.forall_mem_cons.2 ⟨fun x => wpiece i 0 28 (by omega) _ _ (k0_off93_eq i ⟨0, by omega⟩) rfl (k0_off93_inb i ⟨0, by omega⟩) inb_S256x4096_S128x128_0_3584 (arg2.view.read (Elt F) X2) (arg4.view.read (Elt F) X4) _ x, ?_⟩
    refine List.forall_mem_cons.2 ⟨fun x => wpiece i 0 27 (by omega) _ _ (k0_off92_eq i ⟨0, by omega⟩) rfl (k0_off92_inb i ⟨0, by omega⟩) inb_S256x4096_S128x128_0_3456 (arg2.view.read (Elt F) X2) (arg4.view.read (Elt F) X4) _ x, ?_⟩
    refine List.forall_mem_cons.2 ⟨fun x => wpiece i 0 26 (by omega) _ _ (k0_off91_eq i ⟨0, by omega⟩) rfl (k0_off91_inb i ⟨0, by omega⟩) inb_S256x4096_S128x128_0_3328 (arg2.view.read (Elt F) X2) (arg4.view.read (Elt F) X4) _ x, ?_⟩
    refine List.forall_mem_cons.2 ⟨fun x => wpiece i 0 25 (by omega) _ _ (k0_off90_eq i ⟨0, by omega⟩) rfl (k0_off90_inb i ⟨0, by omega⟩) inb_S256x4096_S128x128_0_3200 (arg2.view.read (Elt F) X2) (arg4.view.read (Elt F) X4) _ x, ?_⟩
    refine List.forall_mem_cons.2 ⟨fun x => wpiece i 0 24 (by omega) _ _ (k0_off89_eq i ⟨0, by omega⟩) rfl (k0_off89_inb i ⟨0, by omega⟩) inb_S256x4096_S128x128_0_3072 (arg2.view.read (Elt F) X2) (arg4.view.read (Elt F) X4) _ x, ?_⟩
    refine List.forall_mem_cons.2 ⟨fun x => wpiece i 0 23 (by omega) _ _ (k0_off88_eq i ⟨0, by omega⟩) rfl (k0_off88_inb i ⟨0, by omega⟩) inb_S256x4096_S128x128_0_2944 (arg2.view.read (Elt F) X2) (arg4.view.read (Elt F) X4) _ x, ?_⟩
    refine List.forall_mem_cons.2 ⟨fun x => wpiece i 0 22 (by omega) _ _ (k0_off87_eq i ⟨0, by omega⟩) rfl (k0_off87_inb i ⟨0, by omega⟩) inb_S256x4096_S128x128_0_2816 (arg2.view.read (Elt F) X2) (arg4.view.read (Elt F) X4) _ x, ?_⟩
    refine List.forall_mem_cons.2 ⟨fun x => wpiece i 0 21 (by omega) _ _ (k0_off86_eq i ⟨0, by omega⟩) rfl (k0_off86_inb i ⟨0, by omega⟩) inb_S256x4096_S128x128_0_2688 (arg2.view.read (Elt F) X2) (arg4.view.read (Elt F) X4) _ x, ?_⟩
    refine List.forall_mem_cons.2 ⟨fun x => wpiece i 0 20 (by omega) _ _ (k0_off85_eq i ⟨0, by omega⟩) rfl (k0_off85_inb i ⟨0, by omega⟩) inb_S256x4096_S128x128_0_2560 (arg2.view.read (Elt F) X2) (arg4.view.read (Elt F) X4) _ x, ?_⟩
    refine List.forall_mem_cons.2 ⟨fun x => wpiece i 0 19 (by omega) _ _ (k0_off84_eq i ⟨0, by omega⟩) rfl (k0_off84_inb i ⟨0, by omega⟩) inb_S256x4096_S128x128_0_2432 (arg2.view.read (Elt F) X2) (arg4.view.read (Elt F) X4) _ x, ?_⟩
    refine List.forall_mem_cons.2 ⟨fun x => wpiece i 0 18 (by omega) _ _ (k0_off83_eq i ⟨0, by omega⟩) rfl (k0_off83_inb i ⟨0, by omega⟩) inb_S256x4096_S128x128_0_2304 (arg2.view.read (Elt F) X2) (arg4.view.read (Elt F) X4) _ x, ?_⟩
    refine List.forall_mem_cons.2 ⟨fun x => wpiece i 0 17 (by omega) _ _ (k0_off82_eq i ⟨0, by omega⟩) rfl (k0_off82_inb i ⟨0, by omega⟩) inb_S256x4096_S128x128_0_2176 (arg2.view.read (Elt F) X2) (arg4.view.read (Elt F) X4) _ x, ?_⟩
    refine List.forall_mem_cons.2 ⟨fun x => wpiece i 0 16 (by omega) _ _ (k0_off81_eq i ⟨0, by omega⟩) rfl (k0_off81_inb i ⟨0, by omega⟩) inb_S256x4096_S128x128_0_2048 (arg2.view.read (Elt F) X2) (arg4.view.read (Elt F) X4) _ x, ?_⟩
    refine List.forall_mem_cons.2 ⟨fun x => wpiece i 0 15 (by omega) _ _ (k0_off80_eq i ⟨0, by omega⟩) rfl (k0_off80_inb i ⟨0, by omega⟩) inb_S256x4096_S128x128_0_1920 (arg2.view.read (Elt F) X2) (arg4.view.read (Elt F) X4) _ x, ?_⟩
    refine List.forall_mem_cons.2 ⟨fun x => wpiece i 0 14 (by omega) _ _ (k0_off79_eq i ⟨0, by omega⟩) rfl (k0_off79_inb i ⟨0, by omega⟩) inb_S256x4096_S128x128_0_1792 (arg2.view.read (Elt F) X2) (arg4.view.read (Elt F) X4) _ x, ?_⟩
    refine List.forall_mem_cons.2 ⟨fun x => wpiece i 0 13 (by omega) _ _ (k0_off78_eq i ⟨0, by omega⟩) rfl (k0_off78_inb i ⟨0, by omega⟩) inb_S256x4096_S128x128_0_1664 (arg2.view.read (Elt F) X2) (arg4.view.read (Elt F) X4) _ x, ?_⟩
    refine List.forall_mem_cons.2 ⟨fun x => wpiece i 0 12 (by omega) _ _ (k0_off77_eq i ⟨0, by omega⟩) rfl (k0_off77_inb i ⟨0, by omega⟩) inb_S256x4096_S128x128_0_1536 (arg2.view.read (Elt F) X2) (arg4.view.read (Elt F) X4) _ x, ?_⟩
    refine List.forall_mem_cons.2 ⟨fun x => wpiece i 0 11 (by omega) _ _ (k0_off76_eq i ⟨0, by omega⟩) rfl (k0_off76_inb i ⟨0, by omega⟩) inb_S256x4096_S128x128_0_1408 (arg2.view.read (Elt F) X2) (arg4.view.read (Elt F) X4) _ x, ?_⟩
    refine List.forall_mem_cons.2 ⟨fun x => wpiece i 0 10 (by omega) _ _ (k0_off75_eq i ⟨0, by omega⟩) rfl (k0_off75_inb i ⟨0, by omega⟩) inb_S256x4096_S128x128_0_1280 (arg2.view.read (Elt F) X2) (arg4.view.read (Elt F) X4) _ x, ?_⟩
    refine List.forall_mem_cons.2 ⟨fun x => wpiece i 0 9 (by omega) _ _ (k0_off74_eq i ⟨0, by omega⟩) rfl (k0_off74_inb i ⟨0, by omega⟩) inb_S256x4096_S128x128_0_1152 (arg2.view.read (Elt F) X2) (arg4.view.read (Elt F) X4) _ x, ?_⟩
    refine List.forall_mem_cons.2 ⟨fun x => wpiece i 0 8 (by omega) _ _ (k0_off73_eq i ⟨0, by omega⟩) rfl (k0_off73_inb i ⟨0, by omega⟩) inb_S256x4096_S128x128_0_1024 (arg2.view.read (Elt F) X2) (arg4.view.read (Elt F) X4) _ x, ?_⟩
    refine List.forall_mem_cons.2 ⟨fun x => wpiece i 0 7 (by omega) _ _ (k0_off72_eq i ⟨0, by omega⟩) rfl (k0_off72_inb i ⟨0, by omega⟩) inb_S256x4096_S128x128_0_896 (arg2.view.read (Elt F) X2) (arg4.view.read (Elt F) X4) _ x, ?_⟩
    refine List.forall_mem_cons.2 ⟨fun x => wpiece i 0 6 (by omega) _ _ (k0_off71_eq i ⟨0, by omega⟩) rfl (k0_off71_inb i ⟨0, by omega⟩) inb_S256x4096_S128x128_0_768 (arg2.view.read (Elt F) X2) (arg4.view.read (Elt F) X4) _ x, ?_⟩
    refine List.forall_mem_cons.2 ⟨fun x => wpiece i 0 5 (by omega) _ _ (k0_off70_eq i ⟨0, by omega⟩) rfl (k0_off70_inb i ⟨0, by omega⟩) inb_S256x4096_S128x128_0_640 (arg2.view.read (Elt F) X2) (arg4.view.read (Elt F) X4) _ x, ?_⟩
    refine List.forall_mem_cons.2 ⟨fun x => wpiece i 0 4 (by omega) _ _ (k0_off69_eq i ⟨0, by omega⟩) rfl (k0_off69_inb i ⟨0, by omega⟩) inb_S256x4096_S128x128_0_512 (arg2.view.read (Elt F) X2) (arg4.view.read (Elt F) X4) _ x, ?_⟩
    refine List.forall_mem_cons.2 ⟨fun x => wpiece i 0 3 (by omega) _ _ (k0_off68_eq i ⟨0, by omega⟩) rfl (k0_off68_inb i ⟨0, by omega⟩) inb_S256x4096_S128x128_0_384 (arg2.view.read (Elt F) X2) (arg4.view.read (Elt F) X4) _ x, ?_⟩
    refine List.forall_mem_cons.2 ⟨fun x => wpiece i 0 2 (by omega) _ _ (k0_off67_eq i ⟨0, by omega⟩) rfl (k0_off67_inb i ⟨0, by omega⟩) inb_S256x4096_S128x128_0_256 (arg2.view.read (Elt F) X2) (arg4.view.read (Elt F) X4) _ x, ?_⟩
    refine List.forall_mem_cons.2 ⟨fun x => wpiece i 0 1 (by omega) _ _ (k0_off66_eq i ⟨0, by omega⟩) rfl (k0_off66_inb i ⟨0, by omega⟩) inb_S256x4096_S128x128_0_128 (arg2.view.read (Elt F) X2) (arg4.view.read (Elt F) X4) _ x, ?_⟩
    refine List.forall_mem_cons.2 ⟨fun x => wpiece i 0 0 (by omega) _ _ (k0_off65_eq i ⟨0, by omega⟩) rfl (k0_off65_inb i ⟨0, by omega⟩) inb_S256x4096_S128x128_0_0 (arg2.view.read (Elt F) X2) (arg4.view.read (Elt F) X4) _ x, ?_⟩
    exact fun p hp => absurd hp List.not_mem_nil
  have h8 : arg8.view.read (Elt F) (arg8.view.writes (Elt F) arg8.view.junk (runFirst.sl.H8_64 (F := F) i arg2 arg4 X2 X4))
      = WD i (arg2.view.read (Elt F) X2) (arg4.view.read (Elt F) X4) := by
    funext y
    refine View.read_writes_apply_of_pieces _ _ _ _ hw y ?_
    unfold runFirst.sl.H8_64
    exact wcover _ rfl y
  have h7 := read_x Variants.none c none i arg1 harg1 arg2 harg2 arg3 harg3 arg4 harg4 arg5 harg5 arg6 harg6 arg7 harg7 arg8 harg8 hk X1 X3 X7
  have h6 := read_o Variants.none c none i arg1 harg1 arg2 harg2 arg3 harg3 arg4 harg4 arg5 harg5 arg6 harg6 arg7 harg7 arg8 harg8 X5 (arg7.view.writes (Elt F) X7 (pb_k0_t1 (F := F) Variants.none c none i arg1 harg1 arg2 harg2 arg3 harg3 arg4 harg4 arg5 harg5 arg6 harg6 arg7 harg7 arg8 harg8 hk X1 X3 k0_t1_loop.trips)) (arg8.view.writes (Elt F) arg8.view.junk (runFirst.sl.H8_64 (F := F) i arg2 arg4 X2 X4)) X6
  rw [h7, h8] at h6
  unfold owns
  isplitl [H1]
  · iexists _; isplitr; swap; · iexact H1
    · ipureintro; rfl
  isplitl [H2]
  · iexists _; isplitr; swap; · iexact H2
    · ipureintro; rfl
  isplitl [H3]
  · iexists _; isplitr; swap; · iexact H3
    · ipureintro; rfl
  isplitl [H4]
  · iexists _; isplitr; swap; · iexact H4
    · ipureintro; rfl
  isplitl [H5]
  · iexists _; isplitr; swap; · iexact H5
    · ipureintro; rfl
  isplitl [H6]
  · iexists _; isplitr; swap; · iexact H6
    · ipureintro; exact h6
  isplitl [H7]
  · iexists _; isplitr; swap; · iexact H7
    · ipureintro; exact h7
  iexists _; isplitr; swap; · iexact H8
  · ipureintro; exact h8

set_option maxHeartbeats 4000000 in
/-- The body at the other grid points: it uses the activations the scratch holds. -/
theorem runNext (c : Dev nD) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole) (hk : ¬ k0_cond1 i = 1#1)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty) :
  iprop((arg1.view.loc (c : Thread nD τ) ↦[arg1.view.set]{fullShare} X1)
     ∗ (arg2.view.loc (c : Thread nD τ) ↦[arg2.view.set]{fullShare} X2)
     ∗ (arg3.view.loc (c : Thread nD τ) ↦[arg3.view.set]{fullShare} X3)
     ∗ (arg4.view.loc (c : Thread nD τ) ↦[arg4.view.set]{fullShare} X4)
     ∗ (arg5.view.loc (c : Thread nD τ) ↦[arg5.view.set]{fullShare} X5)
     ∗ (arg6.view.loc (c : Thread nD τ) ↦[arg6.view.set]{fullShare} X6)
     ∗ (arg7.view.loc (c : Thread nD τ) ↦[arg7.view.set]{fullShare} X7)
     ∗ (arg8.view.loc (c : Thread nD τ) ↦[arg8.view.set]{fullShare} X8))
  ⊢ wp frame (wpE (defs₀ (F := F)) Variants.none (c : Thread nD τ) none) Set.univ (cc0_down_proj (F := F) i arg1 harg1 arg2 harg2 arg3 harg3 arg4 harg4 arg5 harg5 arg6 harg6 arg7 harg7 arg8 harg8)
     (fun _ => (iprop(owns (c : Thread nD τ) arg1 fullShare (arg1.view.read (Elt F) X1)
     ∗ owns (c : Thread nD τ) arg2 fullShare (arg2.view.read (Elt F) X2)
     ∗ owns (c : Thread nD τ) arg3 fullShare (arg3.view.read (Elt F) X3)
     ∗ owns (c : Thread nD τ) arg4 fullShare (arg4.view.read (Elt F) X4)
     ∗ owns (c : Thread nD τ) arg5 fullShare (arg5.view.read (Elt F) X5)
     ∗ owns (c : Thread nD τ) arg6 fullShare (OUT (arg7.view.read (Elt F) X7) (WD i (arg2.view.read (Elt F) X2) (arg4.view.read (Elt F) X4)) (arg5.view.read (Elt F) X5))
     ∗ owns (c : Thread nD τ) arg7 fullShare (arg7.view.read (Elt F) X7)
     ∗ owns (c : Thread nD τ) arg8 fullShare (WD i (arg2.view.read (Elt F) X2) (arg4.view.read (Elt F) X4))) : sProp 𝕄)) := by
  simp only [cc0_down_proj_eq_skeleton]; unfold cc0_down_proj_skel
  iintro ⟨H1, H2, H3, H4, H5, H6, H7, H8⟩
  sl_exec (disch := exact hk)
  sl_step
  have hw : ∀ p ∈ runNext.sl.H8_64 (F := F) i arg2 arg4 X2 X4, ∀ x : p.1.shape.Idx,
      p.2 x = WD i (arg2.view.read (Elt F) X2) (arg4.view.read (Elt F) X4) (p.1.emb x) := by
    unfold runNext.sl.H8_64
    refine List.forall_mem_cons.2 ⟨fun x => wpiece i 1 31 (by omega) _ _ (k0_off96_eq i ⟨1, by omega⟩) rfl (k0_off96_inb i ⟨1, by omega⟩) inb_S256x4096_S128x128_128_3968 (arg2.view.read (Elt F) X2) (arg4.view.read (Elt F) X4) _ x, ?_⟩
    refine List.forall_mem_cons.2 ⟨fun x => wpiece i 1 30 (by omega) _ _ (k0_off95_eq i ⟨1, by omega⟩) rfl (k0_off95_inb i ⟨1, by omega⟩) inb_S256x4096_S128x128_128_3840 (arg2.view.read (Elt F) X2) (arg4.view.read (Elt F) X4) _ x, ?_⟩
    refine List.forall_mem_cons.2 ⟨fun x => wpiece i 1 29 (by omega) _ _ (k0_off94_eq i ⟨1, by omega⟩) rfl (k0_off94_inb i ⟨1, by omega⟩) inb_S256x4096_S128x128_128_3712 (arg2.view.read (Elt F) X2) (arg4.view.read (Elt F) X4) _ x, ?_⟩
    refine List.forall_mem_cons.2 ⟨fun x => wpiece i 1 28 (by omega) _ _ (k0_off93_eq i ⟨1, by omega⟩) rfl (k0_off93_inb i ⟨1, by omega⟩) inb_S256x4096_S128x128_128_3584 (arg2.view.read (Elt F) X2) (arg4.view.read (Elt F) X4) _ x, ?_⟩
    refine List.forall_mem_cons.2 ⟨fun x => wpiece i 1 27 (by omega) _ _ (k0_off92_eq i ⟨1, by omega⟩) rfl (k0_off92_inb i ⟨1, by omega⟩) inb_S256x4096_S128x128_128_3456 (arg2.view.read (Elt F) X2) (arg4.view.read (Elt F) X4) _ x, ?_⟩
    refine List.forall_mem_cons.2 ⟨fun x => wpiece i 1 26 (by omega) _ _ (k0_off91_eq i ⟨1, by omega⟩) rfl (k0_off91_inb i ⟨1, by omega⟩) inb_S256x4096_S128x128_128_3328 (arg2.view.read (Elt F) X2) (arg4.view.read (Elt F) X4) _ x, ?_⟩
    refine List.forall_mem_cons.2 ⟨fun x => wpiece i 1 25 (by omega) _ _ (k0_off90_eq i ⟨1, by omega⟩) rfl (k0_off90_inb i ⟨1, by omega⟩) inb_S256x4096_S128x128_128_3200 (arg2.view.read (Elt F) X2) (arg4.view.read (Elt F) X4) _ x, ?_⟩
    refine List.forall_mem_cons.2 ⟨fun x => wpiece i 1 24 (by omega) _ _ (k0_off89_eq i ⟨1, by omega⟩) rfl (k0_off89_inb i ⟨1, by omega⟩) inb_S256x4096_S128x128_128_3072 (arg2.view.read (Elt F) X2) (arg4.view.read (Elt F) X4) _ x, ?_⟩
    refine List.forall_mem_cons.2 ⟨fun x => wpiece i 1 23 (by omega) _ _ (k0_off88_eq i ⟨1, by omega⟩) rfl (k0_off88_inb i ⟨1, by omega⟩) inb_S256x4096_S128x128_128_2944 (arg2.view.read (Elt F) X2) (arg4.view.read (Elt F) X4) _ x, ?_⟩
    refine List.forall_mem_cons.2 ⟨fun x => wpiece i 1 22 (by omega) _ _ (k0_off87_eq i ⟨1, by omega⟩) rfl (k0_off87_inb i ⟨1, by omega⟩) inb_S256x4096_S128x128_128_2816 (arg2.view.read (Elt F) X2) (arg4.view.read (Elt F) X4) _ x, ?_⟩
    refine List.forall_mem_cons.2 ⟨fun x => wpiece i 1 21 (by omega) _ _ (k0_off86_eq i ⟨1, by omega⟩) rfl (k0_off86_inb i ⟨1, by omega⟩) inb_S256x4096_S128x128_128_2688 (arg2.view.read (Elt F) X2) (arg4.view.read (Elt F) X4) _ x, ?_⟩
    refine List.forall_mem_cons.2 ⟨fun x => wpiece i 1 20 (by omega) _ _ (k0_off85_eq i ⟨1, by omega⟩) rfl (k0_off85_inb i ⟨1, by omega⟩) inb_S256x4096_S128x128_128_2560 (arg2.view.read (Elt F) X2) (arg4.view.read (Elt F) X4) _ x, ?_⟩
    refine List.forall_mem_cons.2 ⟨fun x => wpiece i 1 19 (by omega) _ _ (k0_off84_eq i ⟨1, by omega⟩) rfl (k0_off84_inb i ⟨1, by omega⟩) inb_S256x4096_S128x128_128_2432 (arg2.view.read (Elt F) X2) (arg4.view.read (Elt F) X4) _ x, ?_⟩
    refine List.forall_mem_cons.2 ⟨fun x => wpiece i 1 18 (by omega) _ _ (k0_off83_eq i ⟨1, by omega⟩) rfl (k0_off83_inb i ⟨1, by omega⟩) inb_S256x4096_S128x128_128_2304 (arg2.view.read (Elt F) X2) (arg4.view.read (Elt F) X4) _ x, ?_⟩
    refine List.forall_mem_cons.2 ⟨fun x => wpiece i 1 17 (by omega) _ _ (k0_off82_eq i ⟨1, by omega⟩) rfl (k0_off82_inb i ⟨1, by omega⟩) inb_S256x4096_S128x128_128_2176 (arg2.view.read (Elt F) X2) (arg4.view.read (Elt F) X4) _ x, ?_⟩
    refine List.forall_mem_cons.2 ⟨fun x => wpiece i 1 16 (by omega) _ _ (k0_off81_eq i ⟨1, by omega⟩) rfl (k0_off81_inb i ⟨1, by omega⟩) inb_S256x4096_S128x128_128_2048 (arg2.view.read (Elt F) X2) (arg4.view.read (Elt F) X4) _ x, ?_⟩
    refine List.forall_mem_cons.2 ⟨fun x => wpiece i 1 15 (by omega) _ _ (k0_off80_eq i ⟨1, by omega⟩) rfl (k0_off80_inb i ⟨1, by omega⟩) inb_S256x4096_S128x128_128_1920 (arg2.view.read (Elt F) X2) (arg4.view.read (Elt F) X4) _ x, ?_⟩
    refine List.forall_mem_cons.2 ⟨fun x => wpiece i 1 14 (by omega) _ _ (k0_off79_eq i ⟨1, by omega⟩) rfl (k0_off79_inb i ⟨1, by omega⟩) inb_S256x4096_S128x128_128_1792 (arg2.view.read (Elt F) X2) (arg4.view.read (Elt F) X4) _ x, ?_⟩
    refine List.forall_mem_cons.2 ⟨fun x => wpiece i 1 13 (by omega) _ _ (k0_off78_eq i ⟨1, by omega⟩) rfl (k0_off78_inb i ⟨1, by omega⟩) inb_S256x4096_S128x128_128_1664 (arg2.view.read (Elt F) X2) (arg4.view.read (Elt F) X4) _ x, ?_⟩
    refine List.forall_mem_cons.2 ⟨fun x => wpiece i 1 12 (by omega) _ _ (k0_off77_eq i ⟨1, by omega⟩) rfl (k0_off77_inb i ⟨1, by omega⟩) inb_S256x4096_S128x128_128_1536 (arg2.view.read (Elt F) X2) (arg4.view.read (Elt F) X4) _ x, ?_⟩
    refine List.forall_mem_cons.2 ⟨fun x => wpiece i 1 11 (by omega) _ _ (k0_off76_eq i ⟨1, by omega⟩) rfl (k0_off76_inb i ⟨1, by omega⟩) inb_S256x4096_S128x128_128_1408 (arg2.view.read (Elt F) X2) (arg4.view.read (Elt F) X4) _ x, ?_⟩
    refine List.forall_mem_cons.2 ⟨fun x => wpiece i 1 10 (by omega) _ _ (k0_off75_eq i ⟨1, by omega⟩) rfl (k0_off75_inb i ⟨1, by omega⟩) inb_S256x4096_S128x128_128_1280 (arg2.view.read (Elt F) X2) (arg4.view.read (Elt F) X4) _ x, ?_⟩
    refine List.forall_mem_cons.2 ⟨fun x => wpiece i 1 9 (by omega) _ _ (k0_off74_eq i ⟨1, by omega⟩) rfl (k0_off74_inb i ⟨1, by omega⟩) inb_S256x4096_S128x128_128_1152 (arg2.view.read (Elt F) X2) (arg4.view.read (Elt F) X4) _ x, ?_⟩
    refine List.forall_mem_cons.2 ⟨fun x => wpiece i 1 8 (by omega) _ _ (k0_off73_eq i ⟨1, by omega⟩) rfl (k0_off73_inb i ⟨1, by omega⟩) inb_S256x4096_S128x128_128_1024 (arg2.view.read (Elt F) X2) (arg4.view.read (Elt F) X4) _ x, ?_⟩
    refine List.forall_mem_cons.2 ⟨fun x => wpiece i 1 7 (by omega) _ _ (k0_off72_eq i ⟨1, by omega⟩) rfl (k0_off72_inb i ⟨1, by omega⟩) inb_S256x4096_S128x128_128_896 (arg2.view.read (Elt F) X2) (arg4.view.read (Elt F) X4) _ x, ?_⟩
    refine List.forall_mem_cons.2 ⟨fun x => wpiece i 1 6 (by omega) _ _ (k0_off71_eq i ⟨1, by omega⟩) rfl (k0_off71_inb i ⟨1, by omega⟩) inb_S256x4096_S128x128_128_768 (arg2.view.read (Elt F) X2) (arg4.view.read (Elt F) X4) _ x, ?_⟩
    refine List.forall_mem_cons.2 ⟨fun x => wpiece i 1 5 (by omega) _ _ (k0_off70_eq i ⟨1, by omega⟩) rfl (k0_off70_inb i ⟨1, by omega⟩) inb_S256x4096_S128x128_128_640 (arg2.view.read (Elt F) X2) (arg4.view.read (Elt F) X4) _ x, ?_⟩
    refine List.forall_mem_cons.2 ⟨fun x => wpiece i 1 4 (by omega) _ _ (k0_off69_eq i ⟨1, by omega⟩) rfl (k0_off69_inb i ⟨1, by omega⟩) inb_S256x4096_S128x128_128_512 (arg2.view.read (Elt F) X2) (arg4.view.read (Elt F) X4) _ x, ?_⟩
    refine List.forall_mem_cons.2 ⟨fun x => wpiece i 1 3 (by omega) _ _ (k0_off68_eq i ⟨1, by omega⟩) rfl (k0_off68_inb i ⟨1, by omega⟩) inb_S256x4096_S128x128_128_384 (arg2.view.read (Elt F) X2) (arg4.view.read (Elt F) X4) _ x, ?_⟩
    refine List.forall_mem_cons.2 ⟨fun x => wpiece i 1 2 (by omega) _ _ (k0_off67_eq i ⟨1, by omega⟩) rfl (k0_off67_inb i ⟨1, by omega⟩) inb_S256x4096_S128x128_128_256 (arg2.view.read (Elt F) X2) (arg4.view.read (Elt F) X4) _ x, ?_⟩
    refine List.forall_mem_cons.2 ⟨fun x => wpiece i 1 1 (by omega) _ _ (k0_off66_eq i ⟨1, by omega⟩) rfl (k0_off66_inb i ⟨1, by omega⟩) inb_S256x4096_S128x128_128_128 (arg2.view.read (Elt F) X2) (arg4.view.read (Elt F) X4) _ x, ?_⟩
    refine List.forall_mem_cons.2 ⟨fun x => wpiece i 1 0 (by omega) _ _ (k0_off65_eq i ⟨1, by omega⟩) rfl (k0_off65_inb i ⟨1, by omega⟩) inb_S256x4096_S128x128_128_0 (arg2.view.read (Elt F) X2) (arg4.view.read (Elt F) X4) _ x, ?_⟩
    refine List.forall_mem_cons.2 ⟨fun x => wpiece i 0 31 (by omega) _ _ (k0_off96_eq i ⟨0, by omega⟩) rfl (k0_off96_inb i ⟨0, by omega⟩) inb_S256x4096_S128x128_0_3968 (arg2.view.read (Elt F) X2) (arg4.view.read (Elt F) X4) _ x, ?_⟩
    refine List.forall_mem_cons.2 ⟨fun x => wpiece i 0 30 (by omega) _ _ (k0_off95_eq i ⟨0, by omega⟩) rfl (k0_off95_inb i ⟨0, by omega⟩) inb_S256x4096_S128x128_0_3840 (arg2.view.read (Elt F) X2) (arg4.view.read (Elt F) X4) _ x, ?_⟩
    refine List.forall_mem_cons.2 ⟨fun x => wpiece i 0 29 (by omega) _ _ (k0_off94_eq i ⟨0, by omega⟩) rfl (k0_off94_inb i ⟨0, by omega⟩) inb_S256x4096_S128x128_0_3712 (arg2.view.read (Elt F) X2) (arg4.view.read (Elt F) X4) _ x, ?_⟩
    refine List.forall_mem_cons.2 ⟨fun x => wpiece i 0 28 (by omega) _ _ (k0_off93_eq i ⟨0, by omega⟩) rfl (k0_off93_inb i ⟨0, by omega⟩) inb_S256x4096_S128x128_0_3584 (arg2.view.read (Elt F) X2) (arg4.view.read (Elt F) X4) _ x, ?_⟩
    refine List.forall_mem_cons.2 ⟨fun x => wpiece i 0 27 (by omega) _ _ (k0_off92_eq i ⟨0, by omega⟩) rfl (k0_off92_inb i ⟨0, by omega⟩) inb_S256x4096_S128x128_0_3456 (arg2.view.read (Elt F) X2) (arg4.view.read (Elt F) X4) _ x, ?_⟩
    refine List.forall_mem_cons.2 ⟨fun x => wpiece i 0 26 (by omega) _ _ (k0_off91_eq i ⟨0, by omega⟩) rfl (k0_off91_inb i ⟨0, by omega⟩) inb_S256x4096_S128x128_0_3328 (arg2.view.read (Elt F) X2) (arg4.view.read (Elt F) X4) _ x, ?_⟩
    refine List.forall_mem_cons.2 ⟨fun x => wpiece i 0 25 (by omega) _ _ (k0_off90_eq i ⟨0, by omega⟩) rfl (k0_off90_inb i ⟨0, by omega⟩) inb_S256x4096_S128x128_0_3200 (arg2.view.read (Elt F) X2) (arg4.view.read (Elt F) X4) _ x, ?_⟩
    refine List.forall_mem_cons.2 ⟨fun x => wpiece i 0 24 (by omega) _ _ (k0_off89_eq i ⟨0, by omega⟩) rfl (k0_off89_inb i ⟨0, by omega⟩) inb_S256x4096_S128x128_0_3072 (arg2.view.read (Elt F) X2) (arg4.view.read (Elt F) X4) _ x, ?_⟩
    refine List.forall_mem_cons.2 ⟨fun x => wpiece i 0 23 (by omega) _ _ (k0_off88_eq i ⟨0, by omega⟩) rfl (k0_off88_inb i ⟨0, by omega⟩) inb_S256x4096_S128x128_0_2944 (arg2.view.read (Elt F) X2) (arg4.view.read (Elt F) X4) _ x, ?_⟩
    refine List.forall_mem_cons.2 ⟨fun x => wpiece i 0 22 (by omega) _ _ (k0_off87_eq i ⟨0, by omega⟩) rfl (k0_off87_inb i ⟨0, by omega⟩) inb_S256x4096_S128x128_0_2816 (arg2.view.read (Elt F) X2) (arg4.view.read (Elt F) X4) _ x, ?_⟩
    refine List.forall_mem_cons.2 ⟨fun x => wpiece i 0 21 (by omega) _ _ (k0_off86_eq i ⟨0, by omega⟩) rfl (k0_off86_inb i ⟨0, by omega⟩) inb_S256x4096_S128x128_0_2688 (arg2.view.read (Elt F) X2) (arg4.view.read (Elt F) X4) _ x, ?_⟩
    refine List.forall_mem_cons.2 ⟨fun x => wpiece i 0 20 (by omega) _ _ (k0_off85_eq i ⟨0, by omega⟩) rfl (k0_off85_inb i ⟨0, by omega⟩) inb_S256x4096_S128x128_0_2560 (arg2.view.read (Elt F) X2) (arg4.view.read (Elt F) X4) _ x, ?_⟩
    refine List.forall_mem_cons.2 ⟨fun x => wpiece i 0 19 (by omega) _ _ (k0_off84_eq i ⟨0, by omega⟩) rfl (k0_off84_inb i ⟨0, by omega⟩) inb_S256x4096_S128x128_0_2432 (arg2.view.read (Elt F) X2) (arg4.view.read (Elt F) X4) _ x, ?_⟩
    refine List.forall_mem_cons.2 ⟨fun x => wpiece i 0 18 (by omega) _ _ (k0_off83_eq i ⟨0, by omega⟩) rfl (k0_off83_inb i ⟨0, by omega⟩) inb_S256x4096_S128x128_0_2304 (arg2.view.read (Elt F) X2) (arg4.view.read (Elt F) X4) _ x, ?_⟩
    refine List.forall_mem_cons.2 ⟨fun x => wpiece i 0 17 (by omega) _ _ (k0_off82_eq i ⟨0, by omega⟩) rfl (k0_off82_inb i ⟨0, by omega⟩) inb_S256x4096_S128x128_0_2176 (arg2.view.read (Elt F) X2) (arg4.view.read (Elt F) X4) _ x, ?_⟩
    refine List.forall_mem_cons.2 ⟨fun x => wpiece i 0 16 (by omega) _ _ (k0_off81_eq i ⟨0, by omega⟩) rfl (k0_off81_inb i ⟨0, by omega⟩) inb_S256x4096_S128x128_0_2048 (arg2.view.read (Elt F) X2) (arg4.view.read (Elt F) X4) _ x, ?_⟩
    refine List.forall_mem_cons.2 ⟨fun x => wpiece i 0 15 (by omega) _ _ (k0_off80_eq i ⟨0, by omega⟩) rfl (k0_off80_inb i ⟨0, by omega⟩) inb_S256x4096_S128x128_0_1920 (arg2.view.read (Elt F) X2) (arg4.view.read (Elt F) X4) _ x, ?_⟩
    refine List.forall_mem_cons.2 ⟨fun x => wpiece i 0 14 (by omega) _ _ (k0_off79_eq i ⟨0, by omega⟩) rfl (k0_off79_inb i ⟨0, by omega⟩) inb_S256x4096_S128x128_0_1792 (arg2.view.read (Elt F) X2) (arg4.view.read (Elt F) X4) _ x, ?_⟩
    refine List.forall_mem_cons.2 ⟨fun x => wpiece i 0 13 (by omega) _ _ (k0_off78_eq i ⟨0, by omega⟩) rfl (k0_off78_inb i ⟨0, by omega⟩) inb_S256x4096_S128x128_0_1664 (arg2.view.read (Elt F) X2) (arg4.view.read (Elt F) X4) _ x, ?_⟩
    refine List.forall_mem_cons.2 ⟨fun x => wpiece i 0 12 (by omega) _ _ (k0_off77_eq i ⟨0, by omega⟩) rfl (k0_off77_inb i ⟨0, by omega⟩) inb_S256x4096_S128x128_0_1536 (arg2.view.read (Elt F) X2) (arg4.view.read (Elt F) X4) _ x, ?_⟩
    refine List.forall_mem_cons.2 ⟨fun x => wpiece i 0 11 (by omega) _ _ (k0_off76_eq i ⟨0, by omega⟩) rfl (k0_off76_inb i ⟨0, by omega⟩) inb_S256x4096_S128x128_0_1408 (arg2.view.read (Elt F) X2) (arg4.view.read (Elt F) X4) _ x, ?_⟩
    refine List.forall_mem_cons.2 ⟨fun x => wpiece i 0 10 (by omega) _ _ (k0_off75_eq i ⟨0, by omega⟩) rfl (k0_off75_inb i ⟨0, by omega⟩) inb_S256x4096_S128x128_0_1280 (arg2.view.read (Elt F) X2) (arg4.view.read (Elt F) X4) _ x, ?_⟩
    refine List.forall_mem_cons.2 ⟨fun x => wpiece i 0 9 (by omega) _ _ (k0_off74_eq i ⟨0, by omega⟩) rfl (k0_off74_inb i ⟨0, by omega⟩) inb_S256x4096_S128x128_0_1152 (arg2.view.read (Elt F) X2) (arg4.view.read (Elt F) X4) _ x, ?_⟩
    refine List.forall_mem_cons.2 ⟨fun x => wpiece i 0 8 (by omega) _ _ (k0_off73_eq i ⟨0, by omega⟩) rfl (k0_off73_inb i ⟨0, by omega⟩) inb_S256x4096_S128x128_0_1024 (arg2.view.read (Elt F) X2) (arg4.view.read (Elt F) X4) _ x, ?_⟩
    refine List.forall_mem_cons.2 ⟨fun x => wpiece i 0 7 (by omega) _ _ (k0_off72_eq i ⟨0, by omega⟩) rfl (k0_off72_inb i ⟨0, by omega⟩) inb_S256x4096_S128x128_0_896 (arg2.view.read (Elt F) X2) (arg4.view.read (Elt F) X4) _ x, ?_⟩
    refine List.forall_mem_cons.2 ⟨fun x => wpiece i 0 6 (by omega) _ _ (k0_off71_eq i ⟨0, by omega⟩) rfl (k0_off71_inb i ⟨0, by omega⟩) inb_S256x4096_S128x128_0_768 (arg2.view.read (Elt F) X2) (arg4.view.read (Elt F) X4) _ x, ?_⟩
    refine List.forall_mem_cons.2 ⟨fun x => wpiece i 0 5 (by omega) _ _ (k0_off70_eq i ⟨0, by omega⟩) rfl (k0_off70_inb i ⟨0, by omega⟩) inb_S256x4096_S128x128_0_640 (arg2.view.read (Elt F) X2) (arg4.view.read (Elt F) X4) _ x, ?_⟩
    refine List.forall_mem_cons.2 ⟨fun x => wpiece i 0 4 (by omega) _ _ (k0_off69_eq i ⟨0, by omega⟩) rfl (k0_off69_inb i ⟨0, by omega⟩) inb_S256x4096_S128x128_0_512 (arg2.view.read (Elt F) X2) (arg4.view.read (Elt F) X4) _ x, ?_⟩
    refine List.forall_mem_cons.2 ⟨fun x => wpiece i 0 3 (by omega) _ _ (k0_off68_eq i ⟨0, by omega⟩) rfl (k0_off68_inb i ⟨0, by omega⟩) inb_S256x4096_S128x128_0_384 (arg2.view.read (Elt F) X2) (arg4.view.read (Elt F) X4) _ x, ?_⟩
    refine List.forall_mem_cons.2 ⟨fun x => wpiece i 0 2 (by omega) _ _ (k0_off67_eq i ⟨0, by omega⟩) rfl (k0_off67_inb i ⟨0, by omega⟩) inb_S256x4096_S128x128_0_256 (arg2.view.read (Elt F) X2) (arg4.view.read (Elt F) X4) _ x, ?_⟩
    refine List.forall_mem_cons.2 ⟨fun x => wpiece i 0 1 (by omega) _ _ (k0_off66_eq i ⟨0, by omega⟩) rfl (k0_off66_inb i ⟨0, by omega⟩) inb_S256x4096_S128x128_0_128 (arg2.view.read (Elt F) X2) (arg4.view.read (Elt F) X4) _ x, ?_⟩
    refine List.forall_mem_cons.2 ⟨fun x => wpiece i 0 0 (by omega) _ _ (k0_off65_eq i ⟨0, by omega⟩) rfl (k0_off65_inb i ⟨0, by omega⟩) inb_S256x4096_S128x128_0_0 (arg2.view.read (Elt F) X2) (arg4.view.read (Elt F) X4) _ x, ?_⟩
    exact fun p hp => absurd hp List.not_mem_nil
  have h8 : arg8.view.read (Elt F) (arg8.view.writes (Elt F) arg8.view.junk (runNext.sl.H8_64 (F := F) i arg2 arg4 X2 X4))
      = WD i (arg2.view.read (Elt F) X2) (arg4.view.read (Elt F) X4) := by
    funext y
    refine View.read_writes_apply_of_pieces _ _ _ _ hw y ?_
    unfold runNext.sl.H8_64
    exact wcover _ rfl y
  have h6 := read_o Variants.none c none i arg1 harg1 arg2 harg2 arg3 harg3 arg4 harg4 arg5 harg5 arg6 harg6 arg7 harg7 arg8 harg8 X5 X7 (arg8.view.writes (Elt F) arg8.view.junk (runNext.sl.H8_64 (F := F) i arg2 arg4 X2 X4)) X6
  rw [h8] at h6
  unfold owns
  isplitl [H1]
  · iexists _; isplitr; swap; · iexact H1
    · ipureintro; rfl
  isplitl [H2]
  · iexists _; isplitr; swap; · iexact H2
    · ipureintro; rfl
  isplitl [H3]
  · iexists _; isplitr; swap; · iexact H3
    · ipureintro; rfl
  isplitl [H4]
  · iexists _; isplitr; swap; · iexact H4
    · ipureintro; rfl
  isplitl [H5]
  · iexists _; isplitr; swap; · iexact H5
    · ipureintro; rfl
  isplitl [H6]
  · iexists _; isplitr; swap; · iexact H6
    · ipureintro; exact h6
  isplitl [H7]
  · iexists _; isplitr; swap; · iexact H7
    · ipureintro; exact rfl
  iexists _; isplitr; swap; · iexact H8
  · ipureintro; exact h8

/-- The body at the first grid point, from blocks to blocks. -/
theorem ownsFirst (c : Dev nD) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole) (hk : k0_cond1 i = 1#1)
  (Y1 : S3072x32.Idx → Elt F .f32) (Y2 : S43x32.Idx → Elt F .f32) (Y3 : S3072x4096.Idx → Elt F .fp8e4m3) (Y4 : S256x4096.Idx → Elt F .fp8e4m3) (Y5 : S3072x256.Idx → Elt F .bf16) :
  iprop(owns (c : Thread nD τ) arg1 fullShare Y1
     ∗ owns (c : Thread nD τ) arg2 fullShare Y2
     ∗ owns (c : Thread nD τ) arg3 fullShare Y3
     ∗ owns (c : Thread nD τ) arg4 fullShare Y4
     ∗ owns (c : Thread nD τ) arg5 fullShare Y5
     ∗ (∃ d, owns (c : Thread nD τ) arg6 fullShare d)
     ∗ (∃ d, owns (c : Thread nD τ) arg7 fullShare d)
     ∗ (∃ d, owns (c : Thread nD τ) arg8 fullShare d))
  ⊢ wp frame (wpE (defs₀ (F := F)) Variants.none (c : Thread nD τ) none) Set.univ (cc0_down_proj (F := F) i arg1 harg1 arg2 harg2 arg3 harg3 arg4 harg4 arg5 harg5 arg6 harg6 arg7 harg7 arg8 harg8)
     (fun _ => (iprop(owns (c : Thread nD τ) arg1 fullShare Y1
     ∗ owns (c : Thread nD τ) arg2 fullShare Y2
     ∗ owns (c : Thread nD τ) arg3 fullShare Y3
     ∗ owns (c : Thread nD τ) arg4 fullShare Y4
     ∗ owns (c : Thread nD τ) arg5 fullShare Y5
     ∗ owns (c : Thread nD τ) arg6 fullShare (OUT (XD Y1 Y3) (WD i Y2 Y4) Y5)
     ∗ owns (c : Thread nD τ) arg7 fullShare (XD Y1 Y3)
     ∗ owns (c : Thread nD τ) arg8 fullShare (WD i Y2 Y4)) : sProp 𝕄)) := by
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩⟩
  subst h1
  subst h2
  subst h3
  subst h4
  subst h5
  iapply (runFirst c i arg1 harg1 arg2 harg2 arg3 harg3 arg4 harg4 arg5 harg5 arg6 harg6 arg7 harg7 arg8 harg8 hk f1 f2 f3 f4 f5 f6 f7 f8)
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at a later grid point, from blocks to blocks. -/
theorem ownsNext (c : Dev nD) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole) (hk : ¬ k0_cond1 i = 1#1)
  (Y1 : S3072x32.Idx → Elt F .f32) (Y2 : S43x32.Idx → Elt F .f32) (Y3 : S3072x4096.Idx → Elt F .fp8e4m3) (Y4 : S256x4096.Idx → Elt F .fp8e4m3) (Y5 : S3072x256.Idx → Elt F .bf16) (Y7 : S3072x4096.Idx → Elt F .bf16) :
  iprop(owns (c : Thread nD τ) arg1 fullShare Y1
     ∗ owns (c : Thread nD τ) arg2 fullShare Y2
     ∗ owns (c : Thread nD τ) arg3 fullShare Y3
     ∗ owns (c : Thread nD τ) arg4 fullShare Y4
     ∗ owns (c : Thread nD τ) arg5 fullShare Y5
     ∗ (∃ d, owns (c : Thread nD τ) arg6 fullShare d)
     ∗ owns (c : Thread nD τ) arg7 fullShare Y7
     ∗ (∃ d, owns (c : Thread nD τ) arg8 fullShare d))
  ⊢ wp frame (wpE (defs₀ (F := F)) Variants.none (c : Thread nD τ) none) Set.univ (cc0_down_proj (F := F) i arg1 harg1 arg2 harg2 arg3 harg3 arg4 harg4 arg5 harg5 arg6 harg6 arg7 harg7 arg8 harg8)
     (fun _ => (iprop(owns (c : Thread nD τ) arg1 fullShare Y1
     ∗ owns (c : Thread nD τ) arg2 fullShare Y2
     ∗ owns (c : Thread nD τ) arg3 fullShare Y3
     ∗ owns (c : Thread nD τ) arg4 fullShare Y4
     ∗ owns (c : Thread nD τ) arg5 fullShare Y5
     ∗ owns (c : Thread nD τ) arg6 fullShare (OUT Y7 (WD i Y2 Y4) Y5)
     ∗ owns (c : Thread nD τ) arg7 fullShare Y7
     ∗ owns (c : Thread nD τ) arg8 fullShare (WD i Y2 Y4)) : sProp 𝕄)) := by
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%f7, %h7, H7⟩, ⟨%d8, %f8, -, H8⟩⟩
  subst h1
  subst h2
  subst h3
  subst h4
  subst h5
  subst h7
  iapply (runNext c i arg1 harg1 arg2 harg2 arg3 harg3 arg4 harg4 arg5 harg5 arg6 harg6 arg7 harg7 arg8 harg8 hk f1 f2 f3 f4 f5 f6 f7 f8)
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand
-- ==== Proof.FrameRun.lean ====
module

public import proofs.«01_k».proof.Proof.Run
public import Idealize.ShloMosaic.Lib.Pipeline.FrameSuffix

/-! The frame: the program runs, its arguments end unchanged, and every semaphore counter ends at zero. No window's
contents are tracked here. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]
local notation "𝕄" => MT nD τ sig Unit (Elt F) ℕ (UR sig nD τ) ℕ

variable (m : (ℓ : Loc nD τ sig) → Buf (Elt F) ℓ) (ρ : Dev nD → PrngReg)

/-- A triple, with what is to be shown after it. -/
theorem wp_then {c : Dev nD} {p : Prog (TpuEff nD τ sig (Elt F) Λ₀ .tc) PUnit} {P Q K : sProp 𝕄}
    (h : P ⊢ wp frame (wpE (defs₀ (F := F)) Variants.none (c : Thread nD τ) none) Set.univ p (fun _ => Q)) :
    iprop(P ∗ (Q -∗ K)) ⊢ wp frame (wpE (defs₀ (F := F)) Variants.none (c : Thread nD τ) none) Set.univ p (fun _ => K) := by
  iintro ⟨HP, HK⟩
  iapply (wp_wand_r frame (wpE (defs₀ (F := F)) Variants.none (c : Thread nD τ) none) Set.univ (Q := fun _ => Q))
  isplitl [HP]
  · iapply h; iexact HP
  · iintro %a HQ
    iapply HK; iexact HQ

/-- The body from any contents to some contents. -/
theorem ownsAny (c : Dev nD) (i : grid0.Coords) (arg1 : Memref sig .tc .vmem S3072x32 .f32) (harg1 : arg1.IsWhole) (arg2 : Memref sig .tc .smem S43x32 .f32) (harg2 : arg2.IsWhole) (arg3 : Memref sig .tc .vmem S3072x4096 .fp8e4m3) (harg3 : arg3.IsWhole) (arg4 : Memref sig .tc .vmem S256x4096 .fp8e4m3) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S3072x4096 .bf16) (harg7 : arg7.IsWhole) (arg8 : Memref sig .tc .vmem S256x4096 .bf16) (harg8 : arg8.IsWhole) :
  iprop((∃ d, owns (c : Thread nD τ) arg1 fullShare d)
     ∗ (∃ d, owns (c : Thread nD τ) arg2 fullShare d)
     ∗ (∃ d, owns (c : Thread nD τ) arg3 fullShare d)
     ∗ (∃ d, owns (c : Thread nD τ) arg4 fullShare d)
     ∗ (∃ d, owns (c : Thread nD τ) arg5 fullShare d)
     ∗ (∃ d, owns (c : Thread nD τ) arg6 fullShare d)
     ∗ (∃ d, owns (c : Thread nD τ) arg7 fullShare d)
     ∗ (∃ d, owns (c : Thread nD τ) arg8 fullShare d))
  ⊢ wp frame (wpE (defs₀ (F := F)) Variants.none (c : Thread nD τ) none) Set.univ (cc0_down_proj (F := F) i arg1 harg1 arg2 harg2 arg3 harg3 arg4 harg4 arg5 harg5 arg6 harg6 arg7 harg7 arg8 harg8)
     (fun _ => (iprop((∃ d, owns (c : Thread nD τ) arg1 fullShare d)
     ∗ (∃ d, owns (c : Thread nD τ) arg2 fullShare d)
     ∗ (∃ d, owns (c : Thread nD τ) arg3 fullShare d)
     ∗ (∃ d, owns (c : Thread nD τ) arg4 fullShare d)
     ∗ (∃ d, owns (c : Thread nD τ) arg5 fullShare d)
     ∗ (∃ d, owns (c : Thread nD τ) arg6 fullShare d)
     ∗ (∃ d, owns (c : Thread nD τ) arg7 fullShare d)
     ∗ (∃ d, owns (c : Thread nD τ) arg8 fullShare d)) : sProp 𝕄)) := by
  by_cases hk : k0_cond1 i = 1#1
  · iintro ⟨⟨%d1, H1⟩, ⟨%d2, H2⟩, ⟨%d3, H3⟩, ⟨%d4, H4⟩, ⟨%d5, H5⟩, H6, H7, H8⟩
    iapply (wp_then (ownsFirst c i arg1 harg1 arg2 harg2 arg3 harg3 arg4 harg4 arg5 harg5 arg6 harg6 arg7 harg7 arg8 harg8 hk d1 d2 d3 d4 d5))
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨H1, H2, H3, H4, H5, H6, H7, H8⟩
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      iexists _; iexact H8

  · iintro ⟨⟨%d1, H1⟩, ⟨%d2, H2⟩, ⟨%d3, H3⟩, ⟨%d4, H4⟩, ⟨%d5, H5⟩, H6, ⟨%d7, H7⟩, H8⟩
    iapply (wp_then (ownsNext c i arg1 harg1 arg2 harg2 arg3 harg3 arg4 harg4 arg5 harg5 arg6 harg6 arg7 harg7 arg8 harg8 hk d1 d2 d3 d4 d5 d7))
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨H1, H2, H3, H4, H5, H6, H7, H8⟩
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      iexists _; iexact H8

/-- No window's contents are tracked. -/
def forgets0 : Fin 6 → Bool := fun _ => true

/-- The proof data of the frame: nothing is said of what the body leaves. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem phiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA; rw [scopedRest0_eq]; simp only [owns_whole]; try rfl

/-- What the body is called with at a point, and what it returns. -/
def bodyAny (c : Dev nD) (t : Fin cfg0.N) (t' : Fin (cfg0.N + 1)) : sProp 𝕄 :=
  iprop((datsF m 0 c).Φ t' ∗ (datsF m 0 c).owesAt () t'
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))

theorem sound_any (c : Dev nD) (t : Fin cfg0.N) :
    bodyAny m c t t.castSucc ⊢ wp frame (wpE (defs₀ (F := F)) Variants.none c none) Set.univ (bodyAt0 t) (fun _ => bodyAny m c t t.succ) := by
  unfold bodyAny bodyAt0
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, phiA_eq]
  iintro ⟨⟨⟨HA, HB⟩, Hg⟩, HO, H1, H2, H3, H4, H5, H6⟩
  iapply (wp_then (ownsAny c _ _ _ _ _ _ _ _ _ _ _ _ _ _ _ _ _))
  isplitl [H1 H2 H3 H4 H5 H6 HA HB]
  · isplitl [H1]; · iexact H1
    isplitl [H2]; · iexact H2
    isplitl [H3]; · iexact H3
    isplitl [H4]; · iexact H4
    isplitl [H5]; · iexact H5
    isplitl [H6]; · iexact H6
    isplitl [HA]; · iexact HA
    iexact HB
  · iintro ⟨H1, H2, H3, H4, H5, H6, HA, HB⟩
    isplitl [HA HB Hg]
    · isplitr [Hg]
      · isplitl [HA]; · iexact HA
        iexact HB
      · iexact Hg
    isplitl [HO]; · iexact HO
    isplitl [H1]; · iexact H1
    isplitl [H2]; · iexact H2
    isplitl [H3]; · iexact H3
    isplitl [H4]; · iexact H4
    isplitl [H5]; · iexact H5
    iexact H6

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

theorem obligation_any (c : Dev nD) :
    BodyObligationLoose (datsF (F := F) m 0 c) (defs₀ (F := F)) Variants.none () Set.univ forgets0 := fun t => by
  rw [bigSep_W0, bigSep_W0, defs₀_row]
  exact triple_restated (sound_any m c t) rfl .rfl fun _ => .rfl

/-- The only array the host lines after the region write. -/
def T0 : Finset (Ref sig .tc) := {main_v4}

theorem tail_writes : ∀ ops ∈ ([hostOps1] : List (List (HloOp τ sig (Elt F)))), ∀ op ∈ ops, ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_writes, Finset.mem_singleton] at hb
  exact Finset.mem_singleton.2 (Proc.devRef_injective _ hb)

set_option backward.isDefEq.respectTransparency.types false in
/-- The run: inputs end as they were. -/
theorem run_any :
    θ_run defs (onTc (τ := τ) (main (F := F))) (s₀ m ρ)
      (fun r => Pipeline.RDat.FramePostR (cfgs 0) (fun c => (datsF m 0 c).toRForget forgets0) T0 (V m) r ∧ r.2.sem = fun _ => 0) :=
  Pipeline.θ_run_frame_around_T_forget (Q' := _) cfgs (datsF m) (0 : Fin 1) launch0 defs₀ Variants.none forgets0 T0 m ρ main
    (hbody := fun c => obligation_any m c) (hshare := fun c => (datsF m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The frame. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ⟨?_, ?_, ?_, ?_, ?_⟩, h.2⟩) (run_any m ρ)
  · exact ((h.1 c).2 main_arg0 (by decide)).trans (V_main_arg0 m c)
  · exact ((h.1 c).2 main_arg1 (by decide)).trans (V_main_arg1 m c)
  · exact (Pipeline.RDat.FramePostR.arr_in h.1 c 3 rfl).trans (V_main_arg2 m c)
  · exact (Pipeline.RDat.FramePostR.arr_in h.1 c 1 rfl).trans (V_main_arg3 m c)
  · exact ((h.1 c).2 main_arg4 (by decide)).trans (V_main_arg4 m c)

end Cert.KernelIdeal.Hand
-- ==== Proof.WordsFrame.lean ====
module

public import proofs.«01_k».proof.Proof.FrameRun
public import proofs.«01_k».proof.Proof.Gen.Kernel.Frame
public import proofs.«01_k».proof.Defs

/-! The frame of the program over words. It has the same code as the ideal program, and FrameRun.lean proves that code's
frame at any float instance, so the two programs are shown equal and the frame is carried over. -/

@[expose] public section

set_option maxRecDepth 16384

noncomputable section

namespace Cert.Kernel.Hand

open Idealize.ShloMosaic Idealize.SL.Sem

variable (F : FTy → Type) [FloatOps F]

/-- The two programs have the same host code. -/
theorem main_same : Cert.Kernel.main (F := F) = Cert.KernelIdeal.main (F := F) := rfl

/-- They have the same kernel body. -/
theorem body_same : Cert.Kernel.cc0_down_proj (F := F) = Cert.KernelIdeal.cc0_down_proj (F := F) := rfl

/-- They have the same body table. -/
theorem bodies_same : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) =>
    show Cert.Kernel.cc0_down_proj (F := F) _ _ _ _ _ _ _ _ _ _ _ _ _ _ _ _ _
      = Cert.KernelIdeal.cc0_down_proj (F := F) _ _ _ _ _ _ _ _ _ _ _ _ _ _ _ _ _
    rw [body_same]
    rfl

/-- They have the same table with the pipeline's entries. -/
theorem defs_same : Cert.Kernel.defs (F := F) = Cert.KernelIdeal.defs (F := F) :=
  congrArg (Pipeline.defs (Cert.KernelIdeal.pcfgs (F := F))) (bodies_same F)

set_option backward.isDefEq.respectTransparency.types false in
/-- The frame of the program over words. -/
theorem frame_words : Cert.quiescent_Kernel := fun m ρ _ => by
  rw [main_same, defs_same]
  exact Cert.KernelIdeal.Hand.frame_any (F := Bits) m ρ

end Cert.Kernel.Hand
-- ==== Proof.IdealOut.lean ====
module

public import proofs.«01_k».proof.Proof.Body
public import Idealize.ShloMosaic.Lib.Pointwise

/-! The output block over the extended reals: sums of products. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

/-- An entry of the output block: the inner product of an activation row and a weight row, plus the residual. -/
theorem OUT_apply (f7 : FVec Ideal S3072x4096 .bf16) (f8 : FVec Ideal S256x4096 .bf16) (f5 : FVec Ideal S3072x256 .bf16) (r : Fin 3072) (c : Fin 256) :
    OUT (F := Ideal) f7 f8 f5 (ix2 r c) = (∑ k : Fin 4096, f7 (ix2 r k) * f8 (ix2 c k)) + f5 (ix2 r c) := by
  unfold OUT
  pointwise [k0_pay3, rowsX, rowsR, inTile]
  have e7 : ∀ (k : Fin 4096) (h : ∀ a : Fin 2, ![512 * (r.val / 512) + r.val % 512, k.val] a < S3072x4096.size a), (fun a => (⟨![512 * (r.val / 512) + r.val % 512, k.val] a, h a⟩ : Fin (S3072x4096.size a))) = ix2 r k := by
    intro k h; funext a; apply Fin.ext; revert a; rw [Fin.forall_fin_two]
    exact ⟨Nat.div_add_mod _ _, rfl⟩
  have e5 : ∀ (h : ∀ a : Fin 2, ![512 * (r.val / 512) + r.val % 512, c.val] a < S3072x256.size a), (fun a => (⟨![512 * (r.val / 512) + r.val % 512, c.val] a, h a⟩ : Fin (S3072x256.size a))) = ix2 r c := by
    intro h; funext a; apply Fin.ext; revert a; rw [Fin.forall_fin_two]
    exact ⟨Nat.div_add_mod _ _, rfl⟩
  exact congrArg₂ (· + ·) (Finset.sum_congr rfl fun k _ => congrArg₂ (· * ·) (congrArg f7 (e7 k _)) rfl) (congrArg f5 (e5 _))

/-- An entry of the dequantized activations. -/
theorem XD_apply (f1 : FVec Ideal S3072x32 .f32) (f3 : FVec Ideal S3072x4096 .fp8e4m3) (r : Fin 3072) (k : Fin 4096) :
    XD (F := Ideal) f1 f3 (ix2 r k) = f3 (ix2 r k) * f1 (ix2 r ⟨k.val / 128, by omega⟩) := by
  unfold XD
  pointwise
  refine congrArg (f3 (ix2 r k) * ·) (congrArg f1 ?_)
  funext a; apply Fin.ext; revert a; rw [Fin.forall_fin_two]
  exact ⟨rfl, rfl⟩

/-- An entry of the dequantized weight block. -/
theorem WD_apply (i : grid0.Coords) (f2 : FVec Ideal S43x32 .f32) (f4 : FVec Ideal S256x4096 .fp8e4m3) (r : Fin 256) (k : Fin 4096) :
    WD (F := Ideal) i f2 f4 (ix2 r k) = f4 (ix2 r k) * f2 (ix2 ⟨min (2 * (i 0).val + r.val / 128) 42, by omega⟩ ⟨k.val / 128, by omega⟩) := by
  unfold WD
  pointwise
  refine congrArg (f4 (ix2 r k) * ·) (congrArg f2 ?_)
  funext a; apply Fin.ext; revert a; rw [Fin.forall_fin_two]
  exact ⟨rfl, rfl⟩

end Cert.KernelIdeal.Hand
-- ==== Proof.Blocks.lean ====
module

public import proofs.«01_k».proof.Proof.IdealOut
public import Idealize.ShloMosaic.Lib.Pipeline.ValueKit.Basic

/-! Where the blocks lie in their arrays, and what each grid point must leave in the output array. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable (m : (ℓ : Loc nD τ sig) → Buf (Elt Ideal) ℓ)

/-- What the output array must hold: the products of the dequantized matrices, plus the residual. -/
def G (f1 : FVec Ideal S3072x32 .f32) (f2 : FVec Ideal S43x32 .f32) (f3 : FVec Ideal S3072x4096 .fp8e4m3)
    (f4 : FVec Ideal S5504x4096 .fp8e4m3) (f5 : FVec Ideal S3072x5504 .bf16) (r : Fin 3072) (n : Fin 5504) : EReal :=
  (∑ k : Fin 4096, (f3 (ix2 r k) * f1 (ix2 r ⟨k.val / 128, by omega⟩)) * (f4 (ix2 n k) * f2 (ix2 ⟨n.val / 128, by omega⟩ ⟨k.val / 128, by omega⟩)))
    + f5 (ix2 r n)

/-- The same as an array. -/
def GA (f1 : FVec Ideal S3072x32 .f32) (f2 : FVec Ideal S43x32 .f32) (f3 : FVec Ideal S3072x4096 .fp8e4m3)
    (f4 : FVec Ideal S5504x4096 .fp8e4m3) (f5 : FVec Ideal S3072x5504 .bf16) : FVec Ideal S3072x5504 .bf16 :=
  fun i => G f1 f2 f3 f4 f5 (i 0) (i 1)

theorem coord_val : ∀ t : Fin grid0.N, (grid0.coords t 0).val = t.val := by decide +kernel
theorem index3 : ∀ t : Fin grid0.N, win0_3.index t (0 : Fin 2) = t.val ∧ win0_3.index t (1 : Fin 2) = 0 := by decide +kernel
theorem index4 : ∀ t : Fin grid0.N, win0_4.index t (0 : Fin 2) = 0 ∧ win0_4.index t (1 : Fin 2) = t.val := by decide +kernel
theorem index5 : ∀ t : Fin grid0.N, win0_5.index t (0 : Fin 2) = 0 ∧ win0_5.index t (1 : Fin 2) = t.val := by decide +kernel
theorem xsize3 : ∀ t : Fin grid0.N, win0_3.xsize (grid0.coords t) (0 : Fin 2) = min 256 (5504 - 256 * t.val) ∧ win0_3.xsize (grid0.coords t) (1 : Fin 2) = 4096 := by decide +kernel
theorem xsize4 : ∀ t : Fin grid0.N, win0_4.xsize (grid0.coords t) (0 : Fin 2) = 3072 ∧ win0_4.xsize (grid0.coords t) (1 : Fin 2) = min 256 (5504 - 256 * t.val) := by decide +kernel
theorem xsize5 : ∀ t : Fin grid0.N, win0_5.xsize (grid0.coords t) (0 : Fin 2) = 3072 ∧ win0_5.xsize (grid0.coords t) (1 : Fin 2) = min 256 (5504 - 256 * t.val) := by decide +kernel

/-- A row of the weight block, inside the array. -/
theorem fill3 (t : Fin grid0.N) (d : S256x4096.Idx → EReal) (A : FVec Ideal S5504x4096 .fp8e4m3) (c : Fin 256) (hc : 256 * t.val + c.val < 5504) (k : Fin 4096) :
    win0_3.fill (grid0.coords t) d ((win0_3.blk t).view.read (Elt Ideal) A) (ix2 c k) = A (ix2 ⟨256 * t.val + c.val, hc⟩ k) := by
  have hm : win0_3.moved (grid0.coords t) (ix2 c k) = true := by
    rw [Pipeline.Window.moved_iff]
    intro a
    match a with
    | ⟨0, _⟩ => exact lt_of_lt_of_eq (show c.val < min 256 (5504 - 256 * t.val) by omega) (xsize3 t).1.symm
    | ⟨1, _⟩ => exact lt_of_lt_of_eq k.isLt (xsize3 t).2.symm
  unfold Pipeline.Window.fill
  rw [dif_pos hm]
  show A ((win0_3.rect t).emb _) = _
  congr 1
  funext a; apply Fin.ext
  refine (Pipeline.Window.rect_emb_val win0_3 t _ a).trans ?_
  obtain ⟨i0, i1⟩ := index3 t
  match a with
  | ⟨0, _⟩ => show win0_3.index t (0 : Fin 2) * 256 + c.val = 256 * t.val + c.val; rw [i0]; omega
  | ⟨1, _⟩ => show win0_3.index t (1 : Fin 2) * 4096 + k.val = k.val; rw [i1]; omega

/-- A column of the residual block, inside the array. -/
theorem fill4 (t : Fin grid0.N) (d : S3072x256.Idx → EReal) (A : FVec Ideal S3072x5504 .bf16) (r : Fin 3072) (c : Fin 256) (hc : 256 * t.val + c.val < 5504) :
    win0_4.fill (grid0.coords t) d ((win0_4.blk t).view.read (Elt Ideal) A) (ix2 r c) = A (ix2 r ⟨256 * t.val + c.val, hc⟩) := by
  have hm : win0_4.moved (grid0.coords t) (ix2 r c) = true := by
    rw [Pipeline.Window.moved_iff]
    intro a
    match a with
    | ⟨0, _⟩ => exact lt_of_lt_of_eq r.isLt (xsize4 t).1.symm
    | ⟨1, _⟩ => exact lt_of_lt_of_eq (show c.val < min 256 (5504 - 256 * t.val) by omega) (xsize4 t).2.symm
  unfold Pipeline.Window.fill
  rw [dif_pos hm]
  show A ((win0_4.rect t).emb _) = _
  congr 1
  funext a; apply Fin.ext
  refine (Pipeline.Window.rect_emb_val win0_4 t _ a).trans ?_
  obtain ⟨i0, i1⟩ := index4 t
  match a with
  | ⟨0, _⟩ => show win0_4.index t (0 : Fin 2) * 3072 + r.val = r.val; rw [i0]; omega
  | ⟨1, _⟩ => show win0_4.index t (1 : Fin 2) * 256 + c.val = 256 * t.val + c.val; rw [i1]; omega

/-- An entry of the output block in a column inside the array. -/
theorem OUT_point (t : Fin grid0.N) (f1 : FVec Ideal S3072x32 .f32) (f2 : FVec Ideal S43x32 .f32) (f3 : FVec Ideal S3072x4096 .fp8e4m3)
    (f4 : FVec Ideal S5504x4096 .fp8e4m3) (f5 : FVec Ideal S3072x5504 .bf16) (d3 : S256x4096.Idx → EReal) (d4 : S3072x256.Idx → EReal)
    (r : Fin 3072) (c : Fin 256) (hc : 256 * t.val + c.val < 5504) :
    OUT (F := Ideal) (XD f1 f3)
        (WD (grid0.coords t) f2 (win0_3.fill (grid0.coords t) d3 ((win0_3.blk t).view.read (Elt Ideal) f4)))
        (win0_4.fill (grid0.coords t) d4 ((win0_4.blk t).view.read (Elt Ideal) f5)) (ix2 r c)
      = G f1 f2 f3 f4 f5 r ⟨256 * t.val + c.val, hc⟩ := by
  unfold G
  rw [OUT_apply, fill4 t d4 f5 r c hc]
  refine congrArg (· + f5 _) (Finset.sum_congr rfl fun k _ => ?_)
  rw [XD_apply, WD_apply, fill3 t d3 f4 c hc k]
  have e3 : (⟨min (2 * (grid0.coords t 0).val + c.val / 128) 42, by omega⟩ : Fin 43) = ⟨(256 * t.val + c.val) / 128, by omega⟩ := by
    apply Fin.ext
    show min (2 * (grid0.coords t 0).val + c.val / 128) 42 = (256 * t.val + c.val) / 128
    rw [coord_val]; omega
  rw [e3]

/-- On the columns inside the array, the output block at a grid point is that block of `GA`, whatever the staging buffers
hold past the arrays' ends. -/
theorem cut_OUT (t : Fin grid0.N) (f1 : FVec Ideal S3072x32 .f32) (f2 : FVec Ideal S43x32 .f32) (f3 : FVec Ideal S3072x4096 .fp8e4m3)
    (f4 : FVec Ideal S5504x4096 .fp8e4m3) (f5 : FVec Ideal S3072x5504 .bf16) (d3 : S256x4096.Idx → EReal) (d4 : S3072x256.Idx → EReal) :
    win0_5.cut (grid0.coords t) (OUT (F := Ideal) (XD f1 f3)
        (WD (grid0.coords t) f2 (win0_3.fill (grid0.coords t) d3 ((win0_3.blk t).view.read (Elt Ideal) f4)))
        (win0_4.fill (grid0.coords t) d4 ((win0_4.blk t).view.read (Elt Ideal) f5)))
      = (win0_5.blk t).view.read (Elt Ideal) (GA f1 f2 f3 f4 f5) := by
  funext j
  have h0 : (j 0).val < 3072 := lt_of_lt_of_eq (j 0).isLt (xsize5 t).1
  have h1 : (j 1).val < min 256 (5504 - 256 * t.val) := lt_of_lt_of_eq (j 1).isLt (xsize5 t).2
  have h1a : (j 1).val < 256 := by omega
  have h1b : 256 * t.val + (j 1).val < 5504 := by omega
  have e1 : win0_5.xinj (grid0.coords t) j = (ix2 (⟨(j 0).val, h0⟩ : Fin 3072) (⟨(j 1).val, h1a⟩ : Fin 256) : S3072x256.Idx) := by
    funext a; apply Fin.ext
    match a with
    | ⟨0, _⟩ => rfl
    | ⟨1, _⟩ => rfl
  have e2 : (win0_5.rect t).emb j = (ix2 (⟨(j 0).val, h0⟩ : Fin 3072) (⟨256 * t.val + (j 1).val, h1b⟩ : Fin 5504) : S3072x5504.Idx) := by
    funext a; apply Fin.ext
    refine (Pipeline.Window.rect_emb_val win0_5 t _ a).trans ?_
    obtain ⟨i0, i1⟩ := index5 t
    match a with
    | ⟨0, _⟩ => show win0_5.index t (0 : Fin 2) * 3072 + (j 0).val = (j 0).val; rw [i0]; omega
    | ⟨1, _⟩ => show win0_5.index t (1 : Fin 2) * 256 + (j 1).val = 256 * t.val + (j 1).val; rw [i1]; omega
  have e4 := OUT_point t f1 f2 f3 f4 f5 d3 d4 ⟨(j 0).val, h0⟩ ⟨(j 1).val, h1a⟩ h1b
  rw [← e1] at e4
  refine e4.trans ?_
  show G f1 f2 f3 f4 f5 _ _ = GA f1 f2 f3 f4 f5 ((win0_5.rect t).emb j)
  rw [e2]
  rfl

end Cert.KernelIdeal.Hand
-- ==== Proof.Track.lean ====
module

public import proofs.«01_k».proof.Proof.FrameRun
public import proofs.«01_k».proof.Proof.Blocks
public import Idealize.ShloMosaic.Lib.Pipeline.Value
public import Idealize.ShloMosaic.Lib.Pipeline.ValueKit.Geometry

/-! The run with the windows' contents tracked: the first grid point leaves the dequantized activations in the first
scratch buffer, every later point finds them there, and each point leaves its block of `GA` in the output window. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- The array that the region must leave. -/
def GV (c : Dev nD) : FVec Ideal S3072x5504 .bf16 :=
  GA (V m c main_v0) (V m c main_arg3) (V m c main_v1) (V m c main_arg2) (V m c main_v2)

/-- What holds between grid points: before the first nothing is known of the scratch buffers, afterwards the first one holds
the dequantized activations. -/
def PhiT (c : Dev nD) (n : ℕ) : sProp 𝕄 :=
  if n = 0 then Pipeline.ΦA spec0 c
  else iprop((owns (c : Thread nD τ) (Memref.whole cc0_scratch0) fullShare (XD (F := Ideal) (V m c main_v0) (V m c main_v1))
      ∗ (∃ d, owns (c : Thread nD τ) (Memref.whole cc0_scratch1) fullShare d)) ∗ ∃ r, prngReg c r)

/-- The tracked proof data. -/
def datsT (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => (0 : EReal)) (iblk m c 3 t)
    | ⟨4, _⟩ => win0_4.fill (grid0.coords t) (fun _ => (0 : EReal)) (iblk m c 4 t)
    | ⟨5, _⟩ => win0_5.fill (grid0.coords t) (fun _ => (0 : EReal)) ((win0_5.blk t).view.read (Elt Ideal) (GV m c))
  Φ t := PhiT m c t.val
  q _ := fullShare
  owed _ := 0

theorem index0 : ∀ t : Fin grid0.N, win0_0.index t (0 : Fin 2) = 0 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = 0 := by decide +kernel
theorem cond_iff : ∀ t : Fin grid0.N, k0_cond1 (grid0.coords t) = 1#1 ↔ t.val = 0 := by decide +kernel

/-- Window 0's block is its whole array. -/
theorem iblk0_eq (c : Dev nD) (t : Fin cfg0.N) : iblk m c 0 t = V m c main_v0 := by
  funext j
  show V m c main_v0 ((win0_0.rect t).emb j) = V m c main_v0 j
  congr 1
  funext a; apply Fin.ext
  refine (Pipeline.Window.rect_emb_val win0_0 t _ a).trans ?_
  obtain ⟨i0, i1⟩ := index0 t
  match a with
  | ⟨0, _⟩ => show win0_0.index t (0 : Fin 2) * 3072 + (j 0).val = (j 0).val; rw [i0]; omega
  | ⟨1, _⟩ => show win0_0.index t (1 : Fin 2) * 32 + (j 1).val = (j 1).val; rw [i1]; omega

/-- Window 1's block is its whole array. -/
theorem iblk1_eq (c : Dev nD) (t : Fin cfg0.N) : iblk m c 1 t = V m c main_arg3 := by
  funext j
  show V m c main_arg3 ((win0_1.rect t).emb j) = V m c main_arg3 j
  congr 1
  funext a; apply Fin.ext
  refine (Pipeline.Window.rect_emb_val win0_1 t _ a).trans ?_
  obtain ⟨i0, i1⟩ := index1 t
  match a with
  | ⟨0, _⟩ => show win0_1.index t (0 : Fin 2) * 43 + (j 0).val = (j 0).val; rw [i0]; omega
  | ⟨1, _⟩ => show win0_1.index t (1 : Fin 2) * 32 + (j 1).val = (j 1).val; rw [i1]; omega

/-- Window 2's block is its whole array. -/
theorem iblk2_eq (c : Dev nD) (t : Fin cfg0.N) : iblk m c 2 t = V m c main_v1 := by
  funext j
  show V m c main_v1 ((win0_2.rect t).emb j) = V m c main_v1 j
  congr 1
  funext a; apply Fin.ext
  refine (Pipeline.Window.rect_emb_val win0_2 t _ a).trans ?_
  obtain ⟨i0, i1⟩ := index2 t
  match a with
  | ⟨0, _⟩ => show win0_2.index t (0 : Fin 2) * 3072 + (j 0).val = (j 0).val; rw [i0]; omega
  | ⟨1, _⟩ => show win0_2.index t (1 : Fin 2) * 4096 + (j 1).val = (j 1).val; rw [i1]; omega

/-- What the windows hold when the body starts. -/
theorem before0 (c : Dev nD) (t : Fin cfg0.N) (d) : (datsT m 0 c).before 0 t d = V m c main_v0 :=
  (before0_0_of m (datsT m 0 c) rfl (fun _ => rfl) t d).trans (iblk0_eq m c t)
theorem before1 (c : Dev nD) (t : Fin cfg0.N) (d) : (datsT m 0 c).before 1 t d = V m c main_arg3 :=
  (before0_1_of m (datsT m 0 c) rfl (fun _ => rfl) t d).trans (iblk1_eq m c t)
theorem before2 (c : Dev nD) (t : Fin cfg0.N) (d) : (datsT m 0 c).before 2 t d = V m c main_v1 :=
  (before0_2_of m (datsT m 0 c) rfl (fun _ => rfl) t d).trans (iblk2_eq m c t)
theorem before3 (c : Dev nD) (t : Fin cfg0.N) (d) : (datsT m 0 c).before 3 t d = win0_3.fill (grid0.coords t) d (iblk m c 3 t) := by
  unfold Dat.before; rw [if_pos (fetch0_3 t)]; rfl
theorem before4 (c : Dev nD) (t : Fin cfg0.N) (d) : (datsT m 0 c).before 4 t d = win0_4.fill (grid0.coords t) d (iblk m c 4 t) := by
  unfold Dat.before; rw [if_pos (fetch0_4 t)]; rfl

/-- What the body is called with at a point. -/
def preT (c : Dev nD) (t : Fin cfg0.N) : sProp 𝕄 :=
  iprop((datsT m 0 c).Φ t.castSucc ∗ (datsT m 0 c).owesAt () t.castSucc
    ∗ (∃ d, owns (c : Thread nD τ) (st0_0 t) fullShare ((datsT m 0 c).before 0 t d))
    ∗ (∃ d, owns (c : Thread nD τ) (st0_1 t) fullShare ((datsT m 0 c).before 1 t d))
    ∗ (∃ d, owns (c : Thread nD τ) (st0_2 t) fullShare ((datsT m 0 c).before 2 t d))
    ∗ (∃ d, owns (c : Thread nD τ) (st0_3 t) fullShare ((datsT m 0 c).before 3 t d))
    ∗ (∃ d, owns (c : Thread nD τ) (st0_4 t) fullShare ((datsT m 0 c).before 4 t d))
    ∗ (∃ d, owns (c : Thread nD τ) (st0_5 t) fullShare ((datsT m 0 c).before 5 t d)))

/-- What the body must return at a point. -/
def postT (c : Dev nD) (t : Fin cfg0.N) : sProp 𝕄 :=
  iprop((datsT m 0 c).Φ t.succ ∗ (datsT m 0 c).owesAt () t.succ
    ∗ owns (c : Thread nD τ) (st0_0 t) fullShare ((datsT m 0 c).after 0 t)
    ∗ owns (c : Thread nD τ) (st0_1 t) fullShare ((datsT m 0 c).after 1 t)
    ∗ owns (c : Thread nD τ) (st0_2 t) fullShare ((datsT m 0 c).after 2 t)
    ∗ (∃ d, owns (c : Thread nD τ) (st0_3 t) fullShare (win0_3.fill (grid0.coords t) d (win0_3.cut (grid0.coords t) ((datsT m 0 c).after 3 t))))
    ∗ (∃ d, owns (c : Thread nD τ) (st0_4 t) fullShare (win0_4.fill (grid0.coords t) d (win0_4.cut (grid0.coords t) ((datsT m 0 c).after 4 t))))
    ∗ (∃ d, owns (c : Thread nD τ) (st0_5 t) fullShare (win0_5.fill (grid0.coords t) d (win0_5.cut (grid0.coords t) ((datsT m 0 c).after 5 t)))))

theorem after3 (c : Dev nD) (t : Fin cfg0.N) : (datsT m 0 c).after 3 t = win0_3.fill (grid0.coords t) (fun _ => (0 : EReal)) (iblk m c 3 t) := by
  dsimp only [datsT]
theorem after4 (c : Dev nD) (t : Fin cfg0.N) : (datsT m 0 c).after 4 t = win0_4.fill (grid0.coords t) (fun _ => (0 : EReal)) (iblk m c 4 t) := by
  dsimp only [datsT]
theorem after5 (c : Dev nD) (t : Fin cfg0.N) :
    (datsT m 0 c).after 5 t = win0_5.fill (grid0.coords t) (fun _ => (0 : EReal)) ((win0_5.blk t).view.read (Elt Ideal) (GV m c)) := by
  dsimp only [datsT]
theorem cut3 (c : Dev nD) (t : Fin cfg0.N) : win0_3.cut (grid0.coords t) ((datsT m 0 c).after 3 t) = iblk m c 3 t := by
  rw [after3]; exact Pipeline.Window.cut_fill win0_3 _ _ _
theorem cut4 (c : Dev nD) (t : Fin cfg0.N) : win0_4.cut (grid0.coords t) ((datsT m 0 c).after 4 t) = iblk m c 4 t := by
  rw [after4]; exact Pipeline.Window.cut_fill win0_4 _ _ _
theorem cut5 (c : Dev nD) (t : Fin cfg0.N) : win0_5.cut (grid0.coords t) ((datsT m 0 c).after 5 t) = (win0_5.blk t).view.read (Elt Ideal) (GV m c) := by
  rw [after5]; exact Pipeline.Window.cut_fill win0_5 _ _ _

/-- The output block that the body computes is the block of the array, with something past the array's end. -/
theorem out_fill (c : Dev nD) (t : Fin cfg0.N) (d3 : S256x4096.Idx → EReal) (d4 : S3072x256.Idx → EReal) :
    win0_5.fill (grid0.coords t)
        (OUT (F := Ideal) (XD (V m c main_v0) (V m c main_v1))
          (WD (grid0.coords t) (V m c main_arg3) (win0_3.fill (grid0.coords t) d3 (iblk m c 3 t)))
          (win0_4.fill (grid0.coords t) d4 (iblk m c 4 t)))
        ((win0_5.blk t).view.read (Elt Ideal) (GV m c))
      = OUT (F := Ideal) (XD (V m c main_v0) (V m c main_v1))
          (WD (grid0.coords t) (V m c main_arg3) (win0_3.fill (grid0.coords t) d3 (iblk m c 3 t)))
          (win0_4.fill (grid0.coords t) d4 (iblk m c 4 t)) := by
  have h := cut_OUT t (V m c main_v0) (V m c main_arg3) (V m c main_v1) (V m c main_arg2) (V m c main_v2) d3 d4
  unfold GV
  rw [← h]
  exact Pipeline.Window.fill_cut win0_5 _ _

theorem sound_track (c : Dev nD) (t : Fin cfg0.N) :
    preT m c t ⊢ wp frame (wpE (defs₀ (F := Ideal)) Variants.none c none) Set.univ (bodyAt0 t) (fun _ => postT m c t) := by
  unfold preT postT bodyAt0
  rw [cut3, cut4, cut5,
    show (datsT m 0 c).owesAt () t.succ = (datsT m 0 c).owesAt () t.castSucc from rfl,
    show (datsT m 0 c).Φ t.castSucc = PhiT m c t.val from rfl,
    show (datsT m 0 c).Φ t.succ = PhiT m c (t.val + 1) from rfl,
    show (datsT m 0 c).after 0 t = V m c main_v0 from iblk0_eq m c t,
    show (datsT m 0 c).after 1 t = V m c main_arg3 from iblk1_eq m c t,
    show (datsT m 0 c).after 2 t = V m c main_v1 from iblk2_eq m c t]
  simp only [before0, before1, before2, before3, before4]
  rw [show PhiT m c (t.val + 1) = iprop((owns (c : Thread nD τ) (Memref.whole cc0_scratch0) fullShare (XD (F := Ideal) (V m c main_v0) (V m c main_v1))
      ∗ (∃ d, owns (c : Thread nD τ) (Memref.whole cc0_scratch1) fullShare d)) ∗ ∃ r, prngReg c r) from if_neg (Nat.succ_ne_zero _)]
  by_cases ht : t.val = 0
  · rw [show PhiT m c t.val = Pipeline.ΦA spec0 c from if_pos ht, phiA_eq]
    iintro ⟨⟨⟨HA, HB⟩, Hg⟩, HO, ⟨%d0, H1⟩, ⟨%d1, H2⟩, ⟨%d2, H3⟩, ⟨%d3, H4⟩, ⟨%d4, H5⟩, ⟨%d5, H6⟩⟩
    iapply (wp_then (ownsFirst c (grid0.coords t) _ _ _ _ _ _ _ _ _ _ _ _ _ _ _ _ ((cond_iff t).2 ht) (V m c main_v0) (V m c main_arg3) (V m c main_v1) _ _))
    isplitl [H1 H2 H3 H4 H5 H6 HA HB]
    · isplitl [H1]; · iexact H1
      isplitl [H2]; · iexact H2
      isplitl [H3]; · iexact H3
      isplitl [H4]; · iexact H4
      isplitl [H5]; · iexact H5
      isplitl [H6]; · iexists _; iexact H6
      isplitl [HA]; · iexact HA
      iexact HB
    · iintro ⟨H1, H2, H3, H4, H5, H6, HA, HB⟩
      isplitl [HA HB Hg]
      · isplitr [Hg]
        · isplitl [HA]; · iexact HA
          iexists _; iexact HB
        · iexact Hg
      isplitl [HO]; · iexact HO
      isplitl [H1]; · iexact H1
      isplitl [H2]; · iexact H2
      isplitl [H3]; · iexact H3
      isplitl [H4]; · iexists d3; iexact H4
      isplitl [H5]; · iexists d4; iexact H5
      iexists (OUT (F := Ideal) (XD (V m c main_v0) (V m c main_v1))
          (WD (grid0.coords t) (V m c main_arg3) (win0_3.fill (grid0.coords t) d3 (iblk m c 3 t)))
          (win0_4.fill (grid0.coords t) d4 (iblk m c 4 t)))
      rw [out_fill]; iexact H6
  · rw [show PhiT m c t.val = iprop((owns (c : Thread nD τ) (Memref.whole cc0_scratch0) fullShare (XD (F := Ideal) (V m c main_v0) (V m c main_v1))
      ∗ (∃ d, owns (c : Thread nD τ) (Memref.whole cc0_scratch1) fullShare d)) ∗ ∃ r, prngReg c r) from if_neg ht]
    iintro ⟨⟨⟨HA, HB⟩, Hg⟩, HO, ⟨%d0, H1⟩, ⟨%d1, H2⟩, ⟨%d2, H3⟩, ⟨%d3, H4⟩, ⟨%d4, H5⟩, ⟨%d5, H6⟩⟩
    iapply (wp_then (ownsNext c (grid0.coords t) _ _ _ _ _ _ _ _ _ _ _ _ _ _ _ _ (fun h => ht ((cond_iff t).1 h)) (V m c main_v0) (V m c main_arg3) (V m c main_v1) _ _ _))
    isplitl [H1 H2 H3 H4 H5 H6 HA HB]
    · isplitl [H1]; · iexact H1
      isplitl [H2]; · iexact H2
      isplitl [H3]; · iexact H3
      isplitl [H4]; · iexact H4
      isplitl [H5]; · iexact H5
      isplitl [H6]; · iexists _; iexact H6
      isplitl [HA]; · iexact HA
      iexact HB
    · iintro ⟨H1, H2, H3, H4, H5, H6, HA, HB⟩
      isplitl [HA HB Hg]
      · isplitr [Hg]
        · isplitl [HA]; · iexact HA
          iexists _; iexact HB
        · iexact Hg
      isplitl [HO]; · iexact HO
      isplitl [H1]; · iexact H1
      isplitl [H2]; · iexact H2
      isplitl [H3]; · iexact H3
      isplitl [H4]; · iexists d3; iexact H4
      isplitl [H5]; · iexists d4; iexact H5
      iexists (OUT (F := Ideal) (XD (V m c main_v0) (V m c main_v1))
          (WD (grid0.coords t) (V m c main_arg3) (win0_3.fill (grid0.coords t) d3 (iblk m c 3 t)))
          (win0_4.fill (grid0.coords t) d4 (iblk m c 4 t)))
      rw [out_fill]; iexact H6

theorem obligation_track (c : Dev nD) : BodyObligationLoose (datsT m 0 c) (defs₀ (F := Ideal)) Variants.none () Set.univ := fun t => by
  rw [bigSep_W0, bigSep_W0, defs₀_row]
  exact triple_restated (sound_track m c t) rfl .rfl fun _ => .rfl

theorem phi_out (c : Dev nD) : (datsT m 0 c).Φ (Fin.last cfg0.N) ⊢ Pipeline.ΦA spec0 c := by
  rw [show (datsT m 0 c).Φ (Fin.last cfg0.N) = PhiT m c cfg0.N from rfl,
    show PhiT m c cfg0.N = iprop((owns (c : Thread nD τ) (Memref.whole cc0_scratch0) fullShare (XD (F := Ideal) (V m c main_v0) (V m c main_v1))
      ∗ (∃ d, owns (c : Thread nD τ) (Memref.whole cc0_scratch1) fullShare d)) ∗ ∃ r, prngReg c r) from if_neg (by decide), phiA_eq]
  iintro ⟨⟨HA, HB⟩, Hg⟩
  isplitr [Hg]
  · isplitl [HA]
    · iexists _; iexact HA
    · iexact HB
  · iexact Hg

set_option backward.isDefEq.respectTransparency.types false in
/-- The run, every array named. -/
theorem run_track :
    θ_run defs (onTc (τ := τ) (main (F := Ideal))) (s₀ m ρ)
      (Pipeline.FramePost cfgs (datsT m) 0 (Pipeline.afterTail₀ cfgs (datsT m) 0 (V0 m) [hostOps1])) :=
  Pipeline.θ_run_frame_around_track cfgs (datsT m) (0 : Fin 1) launch0 defs₀ Variants.none m ρ main
    (hbody := fun c => obligation_track m c) (hshare := fun c => (datsT m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hin := fun c => .rfl) (hout := fun c => phi_out m c)

/-- Every index of the output array is in the block of some grid point. -/
theorem covered : (cfg0.win 5).Covers := by decide +kernel

/-- The output array after the region. -/
theorem final (c : Dev nD) : (datsT m 0 c).arrAt 5 cfg0.N = GV m c :=
  (datsT m 0 c).arrAt_eq_of_cover 5 (GV m c) (fun t _ => cut5 m c t) (covered.cover _ (Memref.isWhole_whole _))

end Cert.KernelIdeal.Hand
-- ==== Proof.IdealRef.lean ====
module

public import proofs.«01_k».proof.Proof.Gen.ReferenceIdeal.Value
public import Idealize.ShloMosaic.Lib.Pointwise

/-! The reference over the extended reals: sums of products. -/

@[expose] public section

set_option maxRecDepth 16384

noncomputable section

namespace Cert.ReferenceIdeal.Hand

open Cert.ReferenceIdeal Cert.ReferenceIdeal.Gen
open Idealize.ShloMosaic

/-- An entry of the reference's result. -/
theorem ref_apply (a0 : Vec Ideal S2x1536x4096 .fp8e4m3) (a1 : Vec Ideal S2x1536x32 .f32) (a2 : Vec Ideal S5504x4096 .fp8e4m3)
    (a3 : Vec Ideal S43x32 .f32) (a4 : Vec Ideal S2x1536x5504 .bf16) (b : Fin 2) (s : Fin 1536) (n : Fin 5504) :
    k0_pay1 (F := Ideal) a0 a1 a2 a3 a4 (ix3 b s n)
      = (∑ k : Fin 4096, (a0 (ix3 b s k) * a1 (ix3 b s ⟨k.val / 128, by omega⟩)) * (a2 (ix2 n k) * a3 (ix2 ⟨n.val / 128, by omega⟩ ⟨k.val / 128, by omega⟩)))
        + a4 (ix3 b s n) := by
  pointwise [k0_pay1]

end Cert.ReferenceIdeal.Hand
-- ==== Proof.ValueRun.lean ====
module

public import proofs.«01_k».proof.Proof.Track
public import proofs.«01_k».proof.Proof.IdealRef
public import proofs.«01_k».proof.Proof.Gen.ReferenceIdeal.Value
public import proofs.«01_k».proof.Defs
public import Idealize.ShloMosaic.Lib.Claim
public import Idealize.ShloMosaic.Lib.Pointwise

/-! The result of the run is the reference's value of the arguments. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The operands of the region as reshapes of the arguments. -/
theorem V_v0 (c : Dev nD) : V m c main_v0 = shapeCast S3072x32 (m ((c : Thread nD τ).loc main_arg1)) shapeCasts_S2x1536x32_S3072x32 := by
  entry_read; try rfl
theorem V_v1 (c : Dev nD) : V m c main_v1 = shapeCast S3072x4096 (m ((c : Thread nD τ).loc main_arg0)) shapeCasts_S2x1536x4096_S3072x4096 := by
  entry_read; try rfl
theorem V_v2 (c : Dev nD) : V m c main_v2 = shapeCast S3072x5504 (m ((c : Thread nD τ).loc main_arg4)) shapeCasts_S2x1536x5504_S3072x5504 := by
  entry_read; try rfl

/-- The result is the reshape of the region's output array. -/
theorem tail_eq (c : Dev nD) :
    Pipeline.afterTail₀ cfgs (datsT m) 0 (V0 m) [hostOps1] c main_v4 = shapeCast S2x1536x5504 (GV m c) shapeCasts_S3072x5504_S2x1536x5504 := by
  unfold Pipeline.afterTail₀
  rw [List.flatten_cons, List.flatten_nil, List.append_nil, StableHlo.after_cons, StableHlo.after_nil, StableHlo.reshape_result]
  have h := Pipeline.withArrays_arr spec0 winFacts0.arr_inj c (V0 m c) (fun w => (datsT m 0 c).arrAt w cfg0.N) 5
  rw [final] at h
  exact congrArg (fun X => shapeCast S2x1536x5504 X shapeCasts_S3072x5504_S2x1536x5504) h

/-- The array of sums of products, its operands and its result reshaped, is the reference's value. -/
theorem GA_eq_ref (a0 : Vec Ideal S2x1536x4096 .fp8e4m3) (a1 : Vec Ideal S2x1536x32 .f32) (a2 : Vec Ideal S5504x4096 .fp8e4m3)
    (a3 : Vec Ideal S43x32 .f32) (a4 : Vec Ideal S2x1536x5504 .bf16) (b : Fin 2) (s : Fin 1536) (n : Fin 5504) :
    shapeCast S2x1536x5504 (GA (shapeCast S3072x32 a1 shapeCasts_S2x1536x32_S3072x32) a3 (shapeCast S3072x4096 a0 shapeCasts_S2x1536x4096_S3072x4096) a2
        (shapeCast S3072x5504 a4 shapeCasts_S2x1536x5504_S3072x5504)) shapeCasts_S3072x5504_S2x1536x5504 (ix3 b s n)
      = (∑ k : Fin 4096, (a0 (ix3 b s k) * a1 (ix3 b s ⟨k.val / 128, by omega⟩)) * (a2 (ix2 n k) * a3 (ix2 ⟨n.val / 128, by omega⟩ ⟨k.val / 128, by omega⟩)))
        + a4 (ix3 b s n) := by
  pointwise [GA, G]

/-- The result, as the reference's function of the arguments. -/
theorem result_eq (c : Dev nD) :
    Pipeline.afterTail₀ cfgs (datsT m) 0 (V0 m) [hostOps1] c main_v4
      = Cert.ReferenceIdeal.Gen.k0_pay1 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq]
  unfold GV
  rw [V_v0, V_v1, V_v2, V_main_arg2, V_main_arg3]
  funext i
  have hi : i = (ix3 (⟨(i 0).val, (i 0).isLt⟩ : Fin 2) (⟨(i 1).val, (i 1).isLt⟩ : Fin 1536) (⟨(i 2).val, (i 2).isLt⟩ : Fin 5504) : S2x1536x5504.Idx) := by
    funext a; apply Fin.ext
    match a with
    | ⟨0, _⟩ => rfl
    | ⟨1, _⟩ => rfl
    | ⟨2, _⟩ => rfl
  rw [hi]
  exact (GA_eq_ref _ _ _ _ _ _ _ _).trans (Cert.ReferenceIdeal.Hand.ref_apply _ _ _ _ _ _ _ _).symm

/-- The run: the result is the reference's function of the arguments, which end as they were. -/
theorem value_run : θ_run defs (onTc (τ := τ) (main (F := Ideal))) ⟨m, fun _ => 0, ρ⟩ (fun r => ∀ c : Dev nD,
      r.2.mem ((c.tc : Thread nD τ).loc main_v4)
        = Cert.ReferenceIdeal.Gen.k0_pay1 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, ?_, ?_, ?_⟩) (run_track m ρ)
  · exact ((h c).2 main_v4 (Pipeline.mem_restRefs_of main_v4 (by decide) (by decide))).trans (result_eq m c)
  · exact ((h c).2 main_arg0 (Pipeline.mem_restRefs_of main_arg0 (by decide) (by decide))).trans (W_main_arg0 m (datsT m) c)
  · exact ((h c).2 main_arg1 (Pipeline.mem_restRefs_of main_arg1 (by decide) (by decide))).trans (W_main_arg1 m (datsT m) c)
  · exact ((h c).1 3).trans (((datsT m 0 c).arrAt_in 3 rfl _).trans (V_main_arg2 m c))
  · exact ((h c).1 1).trans (((datsT m 0 c).arrAt_in 1 rfl _).trans (V_main_arg3 m c))
  · exact ((h c).2 main_arg4 (Pipeline.mem_restRefs_of main_arg4 (by decide) (by decide))).trans (W_main_arg4 m (datsT m) c)

/-- The two programs over the extended reals give the same result. -/
theorem algebraic : Cert.algebraic_KernelIdeal_ReferenceIdeal := by
  intro m g m' g' _ hm
  refine ⟨_, value_run m g, ?_⟩
  refine (θ_run _ _ _).mono (fun r h c => ?_) (Cert.ReferenceIdeal.Value.run (F := Ideal) m' g')
  obtain ⟨h0, hk⟩ := h c
  obtain ⟨e0, e1, e2, e3, e4⟩ := hm c
  refine ⟨h0.trans ?_, hk⟩
  show Cert.ReferenceIdeal.Gen.k0_pay1 (F := Ideal) _ _ _ _ _ = Cert.ReferenceIdeal.Gen.k0_pay1 (F := Ideal) _ _ _ _ _
  rw [e0, e1, e2, e3, e4]

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.FrameRun
public import proofs.«01_k».proof.Proof.WordsFrame
public import proofs.«01_k».proof.Proof.ValueRun
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel.Hand.frame_words,
  fun m ρ _ => Cert.KernelIdeal.Hand.frame_any (F := Ideal) m ρ,
  fun m ρ _ => Cert.ReferenceIdeal.Gen.frame m ρ,
  trivial,
  Cert.KernelIdeal.Hand.algebraic⟩

end Cert.Proof

end
